-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Pack (m : (ℓ : Loc Cert.Pack.nD Cert.Pack.τ Cert.Pack.sig) → Buf (Elt Bits) ℓ) : Prop :=
  True

def Pre_PackReference (m : (ℓ : Loc Cert.PackReference.nD Cert.PackReference.τ Cert.PackReference.sig) → Buf (Elt Bits) ℓ) : Prop :=
  True

def Pre_Unpack (m : (ℓ : Loc Cert.Unpack.nD Cert.Unpack.τ Cert.Unpack.sig) → Buf (Elt Bits) ℓ) : Prop :=
  True

def Pre_UnpackReference (m : (ℓ : Loc Cert.UnpackReference.nD Cert.UnpackReference.τ Cert.UnpackReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackReference [hPackReference : Cert.PackReference.Facts] : Prop :=
  ∀ (m : (ℓ : Loc Cert.PackReference.nD Cert.PackReference.τ Cert.PackReference.sig) → Buf (Elt Bits) ℓ) (g : Dev Cert.PackReference.nD → PrngReg), Pre_PackReference m →
    θ_run (Cert.PackReference.defs (F := Bits)) (onTc (τ := Cert.PackReference.τ) (Cert.PackReference.main (F := Bits))) ⟨m, fun _ => 0, g⟩ (fun r => (∀ c : Dev Cert.PackReference.nD,
      r.2.mem ((c.tc : Thread Cert.PackReference.nD Cert.PackReference.τ).loc Cert.PackReference.main_arg0) = m ((c.tc : Thread Cert.PackReference.nD Cert.PackReference.τ).loc Cert.PackReference.main_arg0))
      ∧ r.2.sem = fun _ => 0)

def quiescent_Unpack [hUnpack : Cert.Unpack.Facts] : Prop :=
  ∀ (m : (ℓ : Loc Cert.Unpack.nD Cert.Unpack.τ Cert.Unpack.sig) → Buf (Elt Bits) ℓ) (g : Dev Cert.Unpack.nD → PrngReg), Pre_Unpack m →
    θ_run (Cert.Unpack.defs (F := Bits)) (onTc (τ := Cert.Unpack.τ) (Cert.Unpack.main (F := Bits))) ⟨m, fun _ => 0, g⟩ (fun r => (∀ c : Dev Cert.Unpack.nD,
      r.2.mem ((c.tc : Thread Cert.Unpack.nD Cert.Unpack.τ).loc Cert.Unpack.main_arg0) = m ((c.tc : Thread Cert.Unpack.nD Cert.Unpack.τ).loc Cert.Unpack.main_arg0))
      ∧ r.2.sem = fun _ => 0)

def quiescent_UnpackReference [hUnpackReference : Cert.UnpackReference.Facts] : Prop :=
  ∀ (m : (ℓ : Loc Cert.UnpackReference.nD Cert.UnpackReference.τ Cert.UnpackReference.sig) → Buf (Elt Bits) ℓ) (g : Dev Cert.UnpackReference.nD → PrngReg), Pre_UnpackReference m →
    θ_run (Cert.UnpackReference.defs (F := Bits)) (onTc (τ := Cert.UnpackReference.τ) (Cert.UnpackReference.main (F := Bits))) ⟨m, fun _ => 0, g⟩ (fun r => (∀ c : Dev Cert.UnpackReference.nD,
      r.2.mem ((c.tc : Thread Cert.UnpackReference.nD Cert.UnpackReference.τ).loc Cert.UnpackReference.main_arg0) = m ((c.tc : Thread Cert.UnpackReference.nD Cert.UnpackReference.τ).loc Cert.UnpackReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Pack_PackReference [hPack : Cert.Pack.Facts] [hPackReference : Cert.PackReference.Facts] : Prop :=
  ∀ (m : (ℓ : Loc Cert.Pack.nD Cert.Pack.τ Cert.Pack.sig) → Buf (Elt Bits) ℓ) (g : Dev Cert.Pack.nD → PrngReg)
    (m' : (ℓ : Loc Cert.PackReference.nD Cert.PackReference.τ Cert.PackReference.sig) → Buf (Elt Bits) ℓ) (g' : Dev Cert.PackReference.nD → PrngReg), Pre_Pack m →
    (∀ c : Dev Cert.Pack.nD,
      m' ((c.tc : Thread Cert.PackReference.nD Cert.PackReference.τ).loc Cert.PackReference.main_arg0) = m ((c.tc : Thread Cert.Pack.nD Cert.Pack.τ).loc Cert.Pack.main_arg0)) →
    ∃ (v0 : (c : Dev Cert.Pack.nD) → Buf (Elt Bits) ((c.tc : Thread Cert.Pack.nD Cert.Pack.τ).loc Cert.Pack.main_v2)),
      θ_run (Cert.Pack.defs (F := Bits)) (onTc (τ := Cert.Pack.τ) (Cert.Pack.main (F := Bits))) ⟨m, fun _ => 0, g⟩ (fun r => ∀ c : Dev Cert.Pack.nD,
          r.2.mem ((c.tc : Thread Cert.Pack.nD Cert.Pack.τ).loc Cert.Pack.main_v2) = v0 c
          ∧ r.2.mem ((c.tc : Thread Cert.Pack.nD Cert.Pack.τ).loc Cert.Pack.main_arg0) = m ((c.tc : Thread Cert.Pack.nD Cert.Pack.τ).loc Cert.Pack.main_arg0))
      ∧ θ_run (Cert.PackReference.defs (F := Bits)) (onTc (τ := Cert.PackReference.τ) (Cert.PackReference.main (F := Bits))) ⟨m', fun _ => 0, g'⟩ (fun r => ∀ c : Dev Cert.PackReference.nD,
          r.2.mem ((c.tc : Thread Cert.PackReference.nD Cert.PackReference.τ).loc Cert.PackReference.main_v3) = v0 c
          ∧ r.2.mem ((c.tc : Thread Cert.PackReference.nD Cert.PackReference.τ).loc Cert.PackReference.main_arg0) = m' ((c.tc : Thread Cert.PackReference.nD Cert.PackReference.τ).loc Cert.PackReference.main_arg0))

def bitexact_Unpack_UnpackReference [hUnpack : Cert.Unpack.Facts] [hUnpackReference : Cert.UnpackReference.Facts] : Prop :=
  ∀ (m : (ℓ : Loc Cert.Unpack.nD Cert.Unpack.τ Cert.Unpack.sig) → Buf (Elt Bits) ℓ) (g : Dev Cert.Unpack.nD → PrngReg)
    (m' : (ℓ : Loc Cert.UnpackReference.nD Cert.UnpackReference.τ Cert.UnpackReference.sig) → Buf (Elt Bits) ℓ) (g' : Dev Cert.UnpackReference.nD → PrngReg), Pre_Unpack m →
    (∀ c : Dev Cert.Unpack.nD,
      m' ((c.tc : Thread Cert.UnpackReference.nD Cert.UnpackReference.τ).loc Cert.UnpackReference.main_arg0) = m ((c.tc : Thread Cert.Unpack.nD Cert.Unpack.τ).loc Cert.Unpack.main_arg0)) →
    ∃ (v0 : (c : Dev Cert.Unpack.nD) → Buf (Elt Bits) ((c.tc : Thread Cert.Unpack.nD Cert.Unpack.τ).loc Cert.Unpack.main_v4)),
      θ_run (Cert.Unpack.defs (F := Bits)) (onTc (τ := Cert.Unpack.τ) (Cert.Unpack.main (F := Bits))) ⟨m, fun _ => 0, g⟩ (fun r => ∀ c : Dev Cert.Unpack.nD,
          r.2.mem ((c.tc : Thread Cert.Unpack.nD Cert.Unpack.τ).loc Cert.Unpack.main_v4) = v0 c
          ∧ r.2.mem ((c.tc : Thread Cert.Unpack.nD Cert.Unpack.τ).loc Cert.Unpack.main_arg0) = m ((c.tc : Thread Cert.Unpack.nD Cert.Unpack.τ).loc Cert.Unpack.main_arg0))
      ∧ θ_run (Cert.UnpackReference.defs (F := Bits)) (onTc (τ := Cert.UnpackReference.τ) (Cert.UnpackReference.main (F := Bits))) ⟨m', fun _ => 0, g'⟩ (fun r => ∀ c : Dev Cert.UnpackReference.nD,
          r.2.mem ((c.tc : Thread Cert.UnpackReference.nD Cert.UnpackReference.τ).loc Cert.UnpackReference.main_v3) = v0 c
          ∧ r.2.mem ((c.tc : Thread Cert.UnpackReference.nD Cert.UnpackReference.τ).loc Cert.UnpackReference.main_arg0) = m' ((c.tc : Thread Cert.UnpackReference.nD Cert.UnpackReference.τ).loc Cert.UnpackReference.main_arg0))

def Claim : Prop :=
  ∃ (hKernel : Cert.Kernel.Facts) (hKernelIdeal : Cert.KernelIdeal.Facts) (hReferenceIdeal : Cert.ReferenceIdeal.Facts) (hPack : Cert.Pack.Facts) (hPackReference : Cert.PackReference.Facts) (hUnpack : Cert.Unpack.Facts) (hUnpackReference : Cert.UnpackReference.Facts),
    quiescent_Kernel (hKernel := hKernel)
    ∧ quiescent_KernelIdeal (hKernelIdeal := hKernelIdeal)
    ∧ quiescent_ReferenceIdeal (hReferenceIdeal := hReferenceIdeal)
    ∧ quiescent_Pack (hPack := hPack)
    ∧ quiescent_PackReference (hPackReference := hPackReference)
    ∧ quiescent_Unpack (hUnpack := hUnpack)
    ∧ quiescent_UnpackReference (hUnpackReference := hUnpackReference)
    ∧ preserves_Kernel_KernelIdeal
    ∧ algebraic_KernelIdeal_ReferenceIdeal (hKernelIdeal := hKernelIdeal) (hReferenceIdeal := hReferenceIdeal)
    ∧ bitexact_Pack_PackReference (hPack := hPack) (hPackReference := hPackReference)
    ∧ bitexact_Unpack_UnpackReference (hUnpack := hUnpack) (hUnpackReference := hUnpackReference)
-- ==== Kernel.lean ====
abbrev S1536x96 : Shape := ⟨2, ![1536, 96]⟩
abbrev S1536x4 : Shape := ⟨2, ![1536, 4]⟩
abbrev S120000x96 : Shape := ⟨2, ![120000, 96]⟩
abbrev S120000x4 : Shape := ⟨2, ![120000, 4]⟩
abbrev S96x120000 : Shape := ⟨2, ![96, 120000]⟩
abbrev S4x120000 : Shape := ⟨2, ![4, 120000]⟩
abbrev S96x480000 : Shape := ⟨2, ![96, 480000]⟩
abbrev S1x480000 : Shape := ⟨2, ![1, 480000]⟩
abbrev S96x2048 : Shape := ⟨2, ![96, 2048]⟩
abbrev S4x2048 : Shape := ⟨2, ![4, 2048]⟩
abbrev S96x8192 : Shape := ⟨2, ![96, 8192]⟩
abbrev S1x8192 : Shape := ⟨2, ![1, 8192]⟩
abbrev S96x128 : Shape := ⟨2, ![96, 128]⟩
abbrev S8x128 : Shape := ⟨2, ![8, 128]⟩
abbrev S4x128 : Shape := ⟨2, ![4, 128]⟩
abbrev S96x128x1 : Shape := ⟨3, ![96, 128, 1]⟩
abbrev S8x128x1 : Shape := ⟨3, ![8, 128, 1]⟩
abbrev S128 : Shape := ⟨1, ![128]⟩
abbrev S1x128 : Shape := ⟨2, ![1, 128]⟩
abbrev S1x1536x1x4 : Shape := ⟨4, ![1, 1536, 1, 4]⟩
abbrev S1x1536x32x4 : Shape := ⟨4, ![1, 1536, 32, 4]⟩
abbrev S1536x128 : Shape := ⟨2, ![1536, 128]⟩
abbrev S192x3750x8x128 : Shape := ⟨4, ![192, 3750, 8, 128]⟩
abbrev S96x1024 : Shape := ⟨2, ![96, 1024]⟩
abbrev S1x1024 : Shape := ⟨2, ![1, 1024]⟩
abbrev S192x8x8x128 : Shape := ⟨4, ![192, 8, 8, 128]⟩
abbrev S96x256 : Shape := ⟨2, ![96, 256]⟩
abbrev S256x96 : Shape := ⟨2, ![256, 96]⟩
abbrev S256x256 : Shape := ⟨2, ![256, 256]⟩
abbrev S256x128 : Shape := ⟨2, ![256, 128]⟩
abbrev S32x8x128 : Shape := ⟨3, ![32, 8, 128]⟩
abbrev S32x1x8x128 : Shape := ⟨4, ![32, 1, 8, 128]⟩

abbrev nBuf : Space → Nat
  | .hbm => 12
  | .vmem => 16
  | .smem => 0
  | _ => 0

abbrev bufTy : (tb : Table) → Fin (tcTables nBuf tb) → BufTy
  | .hbm, ⟨0, _⟩ => ⟨S1536x96, .fp8e4m3⟩
  | .hbm, ⟨1, _⟩ => ⟨S1536x4, .f32⟩
  | .hbm, ⟨2, _⟩ => ⟨S120000x96, .fp8e4m3⟩
  | .hbm, ⟨3, _⟩ => ⟨S120000x4, .f32⟩
  | .hbm, ⟨4, _⟩ => ⟨S96x120000, .fp8e4m3⟩
  | .hbm, ⟨5, _⟩ => ⟨S4x120000, .f32⟩
  | .hbm, ⟨6, _⟩ => ⟨S96x480000, .fp8e4m3⟩
  | .hbm, ⟨7, _⟩ => ⟨S1x480000, .f32⟩
  | .hbm, ⟨8, _⟩ => ⟨S1x1536x1x4, .f32⟩
  | .hbm, ⟨9, _⟩ => ⟨S1x1536x32x4, .f32⟩
  | .hbm, ⟨10, _⟩ => ⟨S1536x128, .f32⟩
  | .hbm, ⟨11, _⟩ => ⟨S192x3750x8x128, .f32⟩
  | .local _ .vmem, ⟨0, _⟩ => ⟨S96x2048, .fp8e4m3⟩
  | .local _ .vmem, ⟨1, _⟩ => ⟨S96x2048, .fp8e4m3⟩
  | .local _ .vmem, ⟨2, _⟩ => ⟨S4x2048, .f32⟩
  | .local _ .vmem, ⟨3, _⟩ => ⟨S4x2048, .f32⟩
  | .local _ .vmem, ⟨4, _⟩ => ⟨S96x8192, .fp8e4m3⟩
  | .local _ .vmem, ⟨5, _⟩ => ⟨S96x8192, .fp8e4m3⟩
  | .local _ .vmem, ⟨6, _⟩ => ⟨S1x8192, .f32⟩
  | .local _ .vmem, ⟨7, _⟩ => ⟨S1x8192, .f32⟩
  | .local _ .vmem, ⟨8, _⟩ => ⟨S1536x96, .fp8e4m3⟩
  | .local _ .vmem, ⟨9, _⟩ => ⟨S1536x128, .f32⟩
  | .local _ .vmem, ⟨10, _⟩ => ⟨S96x1024, .fp8e4m3⟩
  | .local _ .vmem, ⟨11, _⟩ => ⟨S96x1024, .fp8e4m3⟩
  | .local _ .vmem, ⟨12, _⟩ => ⟨S1x1024, .f32⟩
  | .local _ .vmem, ⟨13, _⟩ => ⟨S1x1024, .f32⟩
  | .local _ .vmem, ⟨14, _⟩ => ⟨S192x8x8x128, .f32⟩
  | .local _ .vmem, ⟨15, _⟩ => ⟨S192x8x8x128, .f32⟩
  | _, _ => ⟨S1536x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![59], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S96x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![469], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S1536x96 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1536x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S96x1024 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S192x8x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S1536x96 : Shape := ⟨2, ![1536, 96]⟩
abbrev S1536x4 : Shape := ⟨2, ![1536, 4]⟩
abbrev S120000x96 : Shape := ⟨2, ![120000, 96]⟩
abbrev S120000x4 : Shape := ⟨2, ![120000, 4]⟩
abbrev S1536x4x24 : Shape := ⟨3, ![1536, 4, 24]⟩
abbrev S120000x4x24 : Shape := ⟨3, ![120000, 4, 24]⟩
abbrev S4x120000x1536 : Shape := ⟨3, ![4, 120000, 1536]⟩
abbrev S1536x120000x4 : Shape := ⟨3, ![1536, 120000, 4]⟩
abbrev S1536x1x4 : Shape := ⟨3, ![1536, 1, 4]⟩
abbrev S1x120000x4 : Shape := ⟨3, ![1, 120000, 4]⟩
abbrev S_ : Shape := ⟨0, ![]⟩
abbrev S192x8x3750x128 : Shape := ⟨4, ![192, 8, 3750, 128]⟩
abbrev S192x3750x8x128 : Shape := ⟨4, ![192, 3750, 8, 128]⟩

abbrev nBuf : Space → Nat
  | .hbm => 21
  | .vmem => 4
  | .smem => 0
  | _ => 0

abbrev bufTy : (tb : Table) → Fin (tcTables nBuf tb) → BufTy
  | .hbm, ⟨0, _⟩ => ⟨S1536x96, .fp8e4m3⟩
  | .hbm, ⟨1, _⟩ => ⟨S1536x4, .f32⟩
  | .hbm, ⟨2, _⟩ => ⟨S120000x96, .fp8e4m3⟩
  | .hbm, ⟨3, _⟩ => ⟨S120000x4, .f32⟩
  | .hbm, ⟨4, _⟩ => ⟨S1536x96, .f32⟩
  | .hbm, ⟨5, _⟩ => ⟨S120000x96, .f32⟩
  | .hbm, ⟨6, _⟩ => ⟨S1536x4x24, .f32⟩
  | .hbm, ⟨7, _⟩ => ⟨S120000x4x24, .f32⟩
  | .hbm, ⟨8, _⟩ => ⟨S4x120000x1536, .f32⟩
  | .hbm, ⟨9, _⟩ => ⟨S1536x120000x4, .f32⟩
  | .hbm, ⟨10, _⟩ => ⟨S1536x1x4, .f32⟩
  | .hbm, ⟨11, _⟩ => ⟨S1x120000x4, .f32⟩
  | .hbm, ⟨12, _⟩ => ⟨S1536x120000x4, .f32⟩
  | .hbm, ⟨13, _⟩ => ⟨S1536x120000x4, .f32⟩
  | .hbm, ⟨14, _⟩ => ⟨S1536x120000x4, .f32⟩
  | .hbm, ⟨15, _⟩ => ⟨S1536x120000x4, .f32⟩
  | .hbm, ⟨16, _⟩ => ⟨S_, .f32⟩
  | .hbm, ⟨17, _⟩ => ⟨S1536x120000x4, .f32⟩
  | .hbm, ⟨18, _⟩ => ⟨S1536x120000x4, .f32⟩
  | .hbm, ⟨19, _⟩ => ⟨S192x8x3750x128, .f32⟩
  | .hbm, ⟨20, _⟩ => ⟨S192x3750x8x128, .f32⟩
  | .local _ .vmem, ⟨0, _⟩ => ⟨S1536x96, .fp8e4m3⟩
  | .local _ .vmem, ⟨1, _⟩ => ⟨S120000x96, .fp8e4m3⟩
  | .local _ .vmem, ⟨2, _⟩ => ⟨S1536x96, .f32⟩
  | .local _ .vmem, ⟨3, _⟩ => ⟨S120000x96, .f32⟩
  | _, _ => ⟨S1536x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1536x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120000x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S120000x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Pack.lean ====
abbrev S6291456 : Shape := ⟨1, ![6291456]⟩
abbrev S49152x128 : Shape := ⟨2, ![49152, 128]⟩
abbrev S24576x128 : Shape := ⟨2, ![24576, 128]⟩
abbrev S4096x128 : Shape := ⟨2, ![4096, 128]⟩
abbrev S2048x128 : Shape := ⟨2, ![2048, 128]⟩
abbrev S3145728 : Shape := ⟨1, ![3145728]⟩

abbrev nBuf : Space → Nat
  | .hbm => 4
  | .vmem => 4
  | .smem => 0
  | _ => 0

abbrev bufTy : (tb : Table) → Fin (tcTables nBuf tb) → BufTy
  | .hbm, ⟨0, _⟩ => ⟨S6291456, .bf16⟩
  | .hbm, ⟨1, _⟩ => ⟨S49152x128, .bf16⟩
  | .hbm, ⟨2, _⟩ => ⟨S24576x128, .i32⟩
  | .hbm, ⟨3, _⟩ => ⟨S3145728, .i32⟩
  | .local _ .vmem, ⟨0, _⟩ => ⟨S4096x128, .bf16⟩
  | .local _ .vmem, ⟨1, _⟩ => ⟨S4096x128, .bf16⟩
  | .local _ .vmem, ⟨2, _⟩ => ⟨S2048x128, .i32⟩
  | .local _ .vmem, ⟨3, _⟩ => ⟨S2048x128, .i32⟩
  | _, _ => ⟨S6291456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PackReference.lean ====
abbrev S6291456 : Shape := ⟨1, ![6291456]⟩
abbrev S24576x2x128 : Shape := ⟨3, ![24576, 2, 128]⟩
abbrev S24576x128x2 : Shape := ⟨3, ![24576, 128, 2]⟩
abbrev S24576x128 : Shape := ⟨2, ![24576, 128]⟩
abbrev S3145728 : Shape := ⟨1, ![3145728]⟩

abbrev nBuf : Space → Nat
  | .hbm => 5
  | .vmem => 0
  | .smem => 0
  | _ => 0

abbrev bufTy : (tb : Table) → Fin (tcTables nBuf tb) → BufTy
  | .hbm, ⟨0, _⟩ => ⟨S6291456, .bf16⟩
  | .hbm, ⟨1, _⟩ => ⟨S24576x2x128, .bf16⟩
  | .hbm, ⟨2, _⟩ => ⟨S24576x128x2, .bf16⟩
  | .hbm, ⟨3, _⟩ => ⟨S24576x128, .i32⟩
  | .hbm, ⟨4, _⟩ => ⟨S3145728, .i32⟩
  | _, _ => ⟨S6291456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [BitOps F]
-- ==== Unpack.lean ====
abbrev S12582912 : Shape := ⟨1, ![12582912]⟩
abbrev S49152x2x128 : Shape := ⟨3, ![49152, 2, 128]⟩
abbrev S2x49152x128 : Shape := ⟨3, ![2, 49152, 128]⟩
abbrev S2x6291456 : Shape := ⟨2, ![2, 6291456]⟩
abbrev S4x6291456 : Shape := ⟨2, ![4, 6291456]⟩
abbrev S2x65536 : Shape := ⟨2, ![2, 65536]⟩
abbrev S4x65536 : Shape := ⟨2, ![4, 65536]⟩
abbrev S6291456x4 : Shape := ⟨2, ![6291456, 4]⟩

abbrev nBuf : Space → Nat
  | .hbm => 6
  | .vmem => 4
  | .smem => 0
  | _ => 0

abbrev bufTy : (tb : Table) → Fin (tcTables nBuf tb) → BufTy
  | .hbm, ⟨0, _⟩ => ⟨S12582912, .i32⟩
  | .hbm, ⟨1, _⟩ => ⟨S49152x2x128, .i32⟩
  | .hbm, ⟨2, _⟩ => ⟨S2x49152x128, .i32⟩
  | .hbm, ⟨3, _⟩ => ⟨S2x6291456, .i32⟩
  | .hbm, ⟨4, _⟩ => ⟨S4x6291456, .bf16⟩
  | .hbm, ⟨5, _⟩ => ⟨S6291456x4, .bf16⟩
  | .local _ .vmem, ⟨0, _⟩ => ⟨S2x65536, .i32⟩
  | .local _ .vmem, ⟨1, _⟩ => ⟨S2x65536, .i32⟩
  | .local _ .vmem, ⟨2, _⟩ => ⟨S4x65536, .bf16⟩
  | .local _ .vmem, ⟨3, _⟩ => ⟨S4x65536, .bf16⟩
  | _, _ => ⟨S12582912, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x65536 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x65536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UnpackReference.lean ====
abbrev S12582912 : Shape := ⟨1, ![12582912]⟩
abbrev S49152x2x128 : Shape := ⟨3, ![49152, 2, 128]⟩
abbrev S49152x2x128x2 : Shape := ⟨4, ![49152, 2, 128, 2]⟩
abbrev S49152x128x2x2 : Shape := ⟨4, ![49152, 128, 2, 2]⟩
abbrev S6291456x4 : Shape := ⟨2, ![6291456, 4]⟩

abbrev nBuf : Space → Nat
  | .hbm => 5
  | .vmem => 0
  | .smem => 0
  | _ => 0

abbrev bufTy : (tb : Table) → Fin (tcTables nBuf tb) → BufTy
  | .hbm, ⟨0, _⟩ => ⟨S12582912, .i32⟩
  | .hbm, ⟨1, _⟩ => ⟨S49152x2x128, .i32⟩
  | .hbm, ⟨2, _⟩ => ⟨S49152x2x128x2, .bf16⟩
  | .hbm, ⟨3, _⟩ => ⟨S49152x128x2x2, .bf16⟩
  | .hbm, ⟨4, _⟩ => ⟨S6291456x4, .bf16⟩
  | _, _ => ⟨S12582912, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Proof.IdealRun.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 4000000 in
noncomputable def run0 (c : Dev nD) (i : grid0.Coords) (M0 : Memref sig .tc .vmem S96x2048 .fp8e4m3) (h0 : M0.IsWhole) (M1 : Memref sig .tc .vmem S4x2048 .f32) (h1 : M1.IsWhole)
    (M2 : Memref sig .tc .vmem S96x8192 .fp8e4m3) (h2 : M2.IsWhole) (M3 : Memref sig .tc .vmem S1x8192 .f32) (h3 : M3.IsWhole)
    (f0 : Bf (F := F) c M0) (f1 : Bf (F := F) c M1) (f2 : Bf (F := F) c M2) (f3 : Bf (F := F) c M3) :
    { W : Bf (F := F) c M2 × Bf (F := F) c M3 // ∀ (E : Set ℕ) (Q : PUnit → sProp 𝕄),
        iprop(pt c M0 f0 ∗ pt c M1 f1 ∗ pt c M2 f2 ∗ pt c M3 f3 ∗ (iprop(pt c M0 f0 ∗ pt c M1 f1 ∗ pt c M2 W.1 ∗ pt c M3 W.2) -∗ Q ⟨⟩))
          ⊢ wp frame (wpE (defs₀ (F := F)) Variants.none c none) E (cc0_expand_b i M0 h0 M1 h1 M2 h2 M3 h3) Q } := by
  refine ⟨⟨?_, ?_⟩, fun E Q => ?run⟩
  case run =>
    iintro ⟨H0, H1, H2, H3, Hk⟩
    sl_exec!
    sl_step
    iapply Hk
    isplitl [H0]; · iexact H0
    isplitl [H1]; · iexact H1
    isplitl [H2]; · iexact H2
    iexact H3

set_option maxHeartbeats 4000000 in
noncomputable def run1 (c : Dev nD) (i : grid1.Coords) (M0 : Memref sig .tc .vmem S1536x96 .fp8e4m3) (h0 : M0.IsWhole) (M1 : Memref sig .tc .vmem S1536x128 .f32) (h1 : M1.IsWhole)
    (M2 : Memref sig .tc .vmem S96x1024 .fp8e4m3) (h2 : M2.IsWhole) (M3 : Memref sig .tc .vmem S1x1024 .f32) (h3 : M3.IsWhole) (M4 : Memref sig .tc .vmem S192x8x8x128 .f32) (h4 : M4.IsWhole)
    (f0 : Bf (F := F) c M0) (f1 : Bf (F := F) c M1) (f2 : Bf (F := F) c M2) (f3 : Bf (F := F) c M3) (f4 : Bf (F := F) c M4) :
    { W : Bf (F := F) c M4 // ∀ (E : Set ℕ) (Q : PUnit → sProp 𝕄),
        iprop(pt c M0 f0 ∗ pt c M1 f1 ∗ pt c M2 f2 ∗ pt c M3 f3 ∗ pt c M4 f4 ∗ (iprop(pt c M0 f0 ∗ pt c M1 f1 ∗ pt c M2 f2 ∗ pt c M3 f3 ∗ pt c M4 W) -∗ Q ⟨⟩))
          ⊢ wp frame (wpE (defs₀ (F := F)) Variants.none c none) E (cc1_dense_products i M0 h0 M1 h1 M2 h2 M3 h3 M4 h4) Q } := by
  refine ⟨?_, fun E Q => ?run⟩
  case run =>
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

end Cert.KernelIdeal.Hand
end
-- ==== Proof.Tiles.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Tactic
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.View (ld)

/-- The lane number of each element of a 96-row tile. -/
def lanes : IVec S96x128 32 := iota .tc S96x128 32 [1] iota_S96x128_d1_w32

/-- The gather index of a tile: the lane number divided by four (rounding down), plus `k`. -/
def gix (k : BitVec 32) : IVec S96x128 32 :=
  have v131 : BitVec 1 := Scalar.cmpi .slt 4#32 0#32
  have v132 : BitVec 32 := Scalar.extui v131
  have v133 : BitVec 32 := Scalar.subi (Scalar.extui (Scalar.cmpi .sgt 4#32 0#32)) v132
  have v134 : IVec S96x128 32 := broadcast S96x128 v133
  have v135 : IVec S96x128 1 := cmpi .ne (k0_pay13 lanes) v134
  have v136 : IVec S96x128 32 := broadcast S96x128 4#32
  have v137 : IVec S96x128 32 := remsi lanes v136
  have v138 : IVec S96x128 32 := broadcast S96x128 0#32
  have v139 : IVec S96x128 1 := cmpi .ne v137 v138
  have v140 : IVec S96x128 1 := andi v135 v139
  have v141 : IVec S96x128 32 := broadcast S96x128 1#32
  have v142 : IVec S96x128 32 := subi (k0_pay12 lanes) v141
  have v143 : IVec S96x128 32 := select v140 v142 (k0_pay12 lanes)
  have v144 : IVec S96x128 32 := broadcast S96x128 k
  have v145 : IVec S96x128 32 := addi v143 v144
  v145

/-- One 128-lane tile of the expanded codes, from 128 columns of the codes. -/
def tileE (k : BitVec 32) (X : Vec Ideal S96x128 .fp8e4m3) : FVec Ideal S96x128 .fp8e4m3 :=
  have v146 : IVec S96x128 32 := broadcast S96x128 0#32
  have v147 : IVec S96x128 1 := cmpi .slt (gix k) v146
  have v148 : IVec S96x128 32 := broadcast S96x128 128#32
  have v149 : IVec S96x128 32 := addi (gix k) v148
  have v150 : IVec S96x128 32 := select v147 v149 (gix k)
  have v151 : IVec S96x128x1 32 := shapeCast S96x128x1 v150 shapeCasts_S96x128_S96x128x1
  have v152 : IVec S96x128 32 := shapeCast S96x128 v151 shapeCasts_S96x128x1_S96x128
  have v153 : FVec Ideal S96x128 .f32 := dynamicGather 1 (k0_pay5 X) v152
  have cst_44 : Ideal .f32 := Scalar.ofBits .f32 0x00000000#32
  have v154 : FVec Ideal S96x128 .f32 := broadcast S96x128 cst_44
  have v155 : FVec Ideal S96x128 .f32 := select k0_pay2 v153 v154
  have v156 : FVec Ideal S96x128 .fp8e4m3 := truncf .fp8e4m3 v155 bitsLt_fp8e4m3_f32
  v156

/-- The mask of the scales' tile: the sublane is the lane's head. -/
def mask8 : IVec S8x128 1 := k0_pay4 (iota .tc S8x128 32 [0] iota_S8x128_d0_w32) k0_pay3 4#32

/-- One 128-lane tile of the flattened scales, from 128 columns of the scales. -/
def tileS (k : BitVec 32) (X : Vec Ideal S4x128 .f32) : FVec Ideal S1x128 .f32 :=
  have v158 : IVec S8x128 32 := extractStridedSlice S8x128 ![0, 0] (gix k) slices_S96x128_o0_0_S8x128
  have v159 : IVec S8x128 32 := broadcast S8x128 0#32
  have v160 : IVec S8x128 1 := cmpi .slt v158 v159
  have v161 : IVec S8x128 32 := broadcast S8x128 128#32
  have v162 : IVec S8x128 32 := addi v158 v161
  have v163 : IVec S8x128 32 := select v160 v162 v158
  have v164 : IVec S8x128x1 32 := shapeCast S8x128x1 v163 shapeCasts_S8x128_S8x128x1
  have v165 : IVec S8x128 32 := shapeCast S8x128 v164 shapeCasts_S8x128x1_S8x128
  have v166 : FVec Ideal S8x128 .f32 := dynamicGather 1 (k0_pay6 X) v165
  have cst_48 : Ideal .f32 := Scalar.ofBits .f32 0x00000000#32
  have v167 : FVec Ideal S8x128 .f32 := broadcast S8x128 cst_48
  have v168 : FVec Ideal S8x128 .f32 := select mask8 v166 v167
  have v169 : FVec Ideal S128 .f32 := multiReduction .add [0] S128 v168 0x00000000#32 reduces_S8x128_S128 (.inl rfl) rfl
  have v170 : FVec Ideal S1x128 .f32 := shapeCast S1x128 v169 shapeCasts_S128_S1x128
  v170

theorem gix_apply (k : BitVec 32) (x : S96x128.Idx) : gix k x = BitVec.ofNat 32 ((x 1).val / 4) + k := by
  unfold gix k0_pay12 k0_pay13 lanes
  pointwise
  refine congrArg (· + k) ?_
  generalize x 1 = l
  revert l
  decide +kernel

theorem mask96_apply (x : S96x128.Idx) : k0_pay2 x = if (x 0).val / 24 = (x 1).val % 4 then 1#1 else 0#1 := by
  unfold k0_pay2
  pointwise
  generalize x 1 = l
  generalize x 0 = r
  revert l r
  decide +kernel

theorem mask8_apply (x : S8x128.Idx) : mask8 x = if (x 0).val = (x 1).val % 4 then 1#1 else 0#1 := by
  unfold mask8 k0_pay4 k0_pay3
  pointwise
  generalize x 1 = l
  generalize x 0 = r
  revert l r
  decide +kernel

/-- The gather's word, after the wrap of negative indices, as a number. -/
theorem wrap_word : ∀ q : Fin 4, ∀ l : Fin 128,
    (Scalar.select (IntOp.cmpi .slt (BitVec.ofNat 32 (l.val / 4) + BitVec.ofNat 32 (32 * q.val)) 0#32)
      (IntOp.addi (BitVec.ofNat 32 (l.val / 4) + BitVec.ofNat 32 (32 * q.val)) 128#32)
      (BitVec.ofNat 32 (l.val / 4) + BitVec.ofNat 32 (32 * q.val))).toNat % 128 = l.val / 4 + 32 * q.val := by
  decide +kernel

theorem lane_bound {l q : ℕ} (hl : l < 128) (hq : q < 4) : l / 4 + 32 * q < 128 := by omega

theorem tileE_apply (q : Fin 4) (X : Vec Ideal S96x128 .fp8e4m3) (x : S96x128.Idx) :
    tileE (BitVec.ofNat 32 (32 * q.val)) X x
      = if (x 0).val / 24 = (x 1).val % 4 then X (ix2 (x 0) ⟨(x 1).val / 4 + 32 * q.val, lane_bound (x 1).isLt q.isLt⟩) else 0 := by
  unfold tileE k0_pay5
  pointwise
  simp only [gix_apply, mask96_apply]
  have hw : ∀ h1 h2, (⟨_, h1⟩ : Fin 128) = ⟨_, h2⟩ := fun h1 h2 => Fin.ext (wrap_word q (x 1))
  rw [hw _ (lane_bound (x 1).isLt q.isLt)]
  split <;> rfl

theorem tileS_apply (q : Fin 4) (X : Vec Ideal S4x128 .f32) (x : S1x128.Idx) :
    tileS (BitVec.ofNat 32 (32 * q.val)) X x
      = X (ix2 ⟨(x 1).val % 4, Nat.mod_lt _ (by decide)⟩ ⟨(x 1).val / 4 + 32 * q.val, lane_bound (x 1).isLt q.isLt⟩) := by
  unfold tileS k0_pay6
  generalize hW : mask8 = W
  generalize hG : gix (BitVec.ofNat 32 (32 * q.val)) = G
  generalize hR : X (ix2 ⟨(x 1).val % 4, Nat.mod_lt _ (by decide)⟩ ⟨(x 1).val / 4 + 32 * q.val, lane_bound (x 1).isLt q.isLt⟩) = R
  pointwise
  have hl : (x 1).val < 128 := (x 1).isLt
  refine (congrArg₂ (· + ·) (Finset.sum_eq_single (⟨(x 1).val % 4, Nat.mod_lt _ (by decide)⟩ : Fin 4) ?_ ?_) (Finset.sum_eq_zero ?_)).trans ?_
  · intro i _ hi
    rw [← hW, mask8_apply, if_neg]
    · rfl
    · exact fun h => hi (Fin.ext h)
  · exact fun h => absurd (Finset.mem_univ _) h
  · intro i _
    rw [← hW, mask8_apply, if_neg]
    · rfl
    · intro h
      have h' : 4 + i.val = (x 1).val % 4 := h
      omega
  · rw [← hR, ← hW, ← hG, mask8_apply, if_pos (by rfl)]
    refine (add_zero _).trans ?_
    refine congrArg X (congrArg _ (Fin.ext ?_))
    simp only [gix_apply]
    exact wrap_word q (x 1)

/-- The product's tile: the even 128-lane half or the odd one of a 256-lane product. -/
def tileD (b : Bool) (B : Vec Ideal S96x256 .fp8e4m3) (A : Vec Ideal S256x96 .fp8e4m3) (P : Vec Ideal S256x128 .f32) (S : Vec Ideal S1x128 .f32) :
    FVec Ideal S32x1x8x128 .f32 :=
  match b with
  | true => k1_pay3 B A P S
  | false => k1_pay4 B A P S

/-- The scale constant of the logits, at the extended reals. -/
def cScale : EReal := Ideal.ofBits FTy.f32 1045497324#32

theorem tileD_true (B : Vec Ideal S96x256 .fp8e4m3) (A : Vec Ideal S256x96 .fp8e4m3) (P : Vec Ideal S256x128 .f32) (S : Vec Ideal S1x128 .f32)
    (x : S32x1x8x128.Idx) (i : Fin 256) (hi : i.val = 8 * (x 0).val + (x 2).val) (n : Fin 256) (hn : n.val = (x 3).val) :
    tileD true B A P S x = (∑ k : Fin 96, A (ix2 i k) * B (ix2 k n)) * (P (ix2 i (x 3)) * S (ix2 0 (x 3))) * cScale := by
  unfold tileD k1_pay3 k1_pay2 k1_pay1
  pointwise
  have e1 : ∀ h, (⟨(x 0).val * 8 + (x 2).val, h⟩ : Fin 256) = i := fun h => Fin.ext (by simp only [hi]; omega)
  have e2 : ∀ h, (⟨(x 3).val, h⟩ : Fin 256) = n := fun h => Fin.ext hn.symm
  simp only [e1, e2]
  rfl

theorem tileD_false (B : Vec Ideal S96x256 .fp8e4m3) (A : Vec Ideal S256x96 .fp8e4m3) (P : Vec Ideal S256x128 .f32) (S : Vec Ideal S1x128 .f32)
    (x : S32x1x8x128.Idx) (i : Fin 256) (hi : i.val = 8 * (x 0).val + (x 2).val) (n : Fin 256) (hn : n.val = 128 + (x 3).val) :
    tileD false B A P S x = (∑ k : Fin 96, A (ix2 i k) * B (ix2 k n)) * (P (ix2 i (x 3)) * S (ix2 0 (x 3))) * cScale := by
  unfold tileD k1_pay4 k1_pay2 k1_pay1
  pointwise
  have e1 : ∀ h, (⟨(x 0).val * 8 + (x 2).val, h⟩ : Fin 256) = i := fun h => Fin.ext (by simp only [hi]; omega)
  have e2 : ∀ h, (⟨128 + (x 3).val, h⟩ : Fin 256) = n := fun h => Fin.ext hn.symm
  simp only [e1, e2]
  rfl

/-! ## What the bodies leave -/

/-- The expanded codes of a block: column `4c + h` keeps column `c`'s rows of head `h`. -/
def outE (X : Vec Ideal S96x2048 .fp8e4m3) : Vec Ideal S96x8192 .fp8e4m3 := fun y =>
  if (y 0).val / 24 = (y 1).val % 4 then X (ix2 (y 0) ⟨(y 1).val / 4, Nat.div_lt_of_lt_mul (y 1).isLt⟩) else 0

/-- The flattened scales of a block: column `4c + h` is the scale of column `c` and head `h`. -/
def outS (X : Vec Ideal S4x2048 .f32) : Vec Ideal S1x8192 .f32 := fun y =>
  X (ix2 ⟨(y 1).val % 4, Nat.mod_lt _ (by decide)⟩ ⟨(y 1).val / 4, Nat.div_lt_of_lt_mul (y 1).isLt⟩)

theorem row_bound {a b : ℕ} (ha : a < 192) (hb : b < 8) : 8 * a + b < 1536 := by omega
theorem col_bound {a b : ℕ} (ha : a < 8) (hb : b < 128) : 128 * a + b < 1024 := by omega

/-- The scaled products of a block, in (row group, lane block, row, lane) order. -/
def outD (A : Vec Ideal S1536x96 .fp8e4m3) (P : Vec Ideal S1536x128 .f32) (B : Vec Ideal S96x1024 .fp8e4m3) (S : Vec Ideal S1x1024 .f32) :
    Vec Ideal S192x8x8x128 .f32 := fun y =>
  (∑ k : Fin 96, A (ix2 ⟨8 * (y 0).val + (y 2).val, row_bound (y 0).isLt (y 2).isLt⟩ k)
      * B (ix2 k ⟨128 * (y 1).val + (y 3).val, col_bound (y 1).isLt (y 3).isLt⟩))
    * (P (ix2 ⟨8 * (y 0).val + (y 2).val, row_bound (y 0).isLt (y 2).isLt⟩ (y 3))
      * S (ix2 0 ⟨128 * (y 1).val + (y 3).val, col_bound (y 1).isLt (y 3).isLt⟩)) * cScale

/-! ## The pieces -/

theorem inbE {o : ℕ} (ho : ∀ a, (![0, o] : Fin 2 → ℕ) a + S96x128.size a ≤ S96x8192.size a) (a : Fin 2) :
    (![0, o / 512 * 128] : Fin 2 → ℕ) a + S96x128.size a ≤ S96x2048.size a := by
  have h := ho 1
  have h' : o + 128 ≤ 8192 := h
  match a with
  | 0 => exact (by decide : 0 + 96 ≤ 96)
  | 1 => exact (by omega : o / 512 * 128 + 128 ≤ 2048)

theorem inbS {o : ℕ} (ho : ∀ a, (![0, o] : Fin 2 → ℕ) a + S1x128.size a ≤ S1x8192.size a) (a : Fin 2) :
    (![0, o / 512 * 128] : Fin 2 → ℕ) a + S4x128.size a ≤ S4x2048.size a := by
  have h := ho 1
  have h' : o + 128 ≤ 8192 := h
  match a with
  | 0 => exact (by decide : 0 + 4 ≤ 4)
  | 1 => exact (by omega : o / 512 * 128 + 128 ≤ 2048)

theorem pieceE (X : Vec Ideal S96x2048 .fp8e4m3) (o : ℕ) (h128 : 128 ∣ o) (ho : ∀ a, (![0, o] : Fin 2 → ℕ) a + S96x128.size a ≤ S96x8192.size a)
    (x : (Rect.unit (s := S96x8192) ![0, o] S96x128.size ho).shape.Idx) :
    tileE (BitVec.ofNat 32 (32 * (o / 128 % 4))) (ld X (Rect.unit (s := S96x2048) ![0, o / 512 * 128] S96x128.size (inbE ho))) x
      = outE X ((Rect.unit (s := S96x8192) ![0, o] S96x128.size ho).idx x) := by
  refine (tileE_apply ⟨o / 128 % 4, Nat.mod_lt _ (by decide)⟩ _ x).trans ?_
  have hx0 : (((Rect.unit (s := S96x8192) ![0, o] S96x128.size ho).idx x) 0).val = (x 0).val := by
    show 0 + 1 * (x 0).val = _; omega
  have hx1 : (((Rect.unit (s := S96x8192) ![0, o] S96x128.size ho).idx x) 1).val = o + (x 1).val := by
    show o + 1 * (x 1).val = _; omega
  have hl : (x 1).val < 128 := (x 1).isLt
  unfold outE
  simp only [hx0, hx1]
  obtain ⟨d, rfl⟩ := h128
  have hm : (128 * d + (x 1).val) % 4 = (x 1).val % 4 := by omega
  rw [hm]
  split
  · refine congrArg X ?_
    funext a
    match a with
    | 0 => rfl
    | 1 => exact Fin.ext (by
        show 128 * d / 512 * 128 + 1 * ((x 1).val / 4 + 32 * (128 * d / 128 % 4)) = (128 * d + (x 1).val) / 4
        omega)
  · rfl

theorem pieceS (X : Vec Ideal S4x2048 .f32) (o : ℕ) (h128 : 128 ∣ o) (ho : ∀ a, (![0, o] : Fin 2 → ℕ) a + S1x128.size a ≤ S1x8192.size a)
    (x : (Rect.unit (s := S1x8192) ![0, o] S1x128.size ho).shape.Idx) :
    tileS (BitVec.ofNat 32 (32 * (o / 128 % 4))) (ld X (Rect.unit (s := S4x2048) ![0, o / 512 * 128] S4x128.size (inbS ho))) x
      = outS X ((Rect.unit (s := S1x8192) ![0, o] S1x128.size ho).idx x) := by
  refine (tileS_apply ⟨o / 128 % 4, Nat.mod_lt _ (by decide)⟩ _ x).trans ?_
  have hx1 : (((Rect.unit (s := S1x8192) ![0, o] S1x128.size ho).idx x) 1).val = o + (x 1).val := by
    show o + 1 * (x 1).val = _; omega
  have hl : (x 1).val < 128 := (x 1).isLt
  unfold outS
  obtain ⟨d, rfl⟩ := h128
  refine congrArg X ?_
  funext a
  match a with
  | 0 => exact Fin.ext (by
      show 0 + 1 * ((x 1).val % 4) = (((Rect.unit (s := S1x8192) ![0, 128 * d] S1x128.size ho).idx x) 1).val % 4
      rw [hx1]; omega)
  | 1 => exact Fin.ext (by
      show 128 * d / 512 * 128 + 1 * ((x 1).val / 4 + 32 * (128 * d / 128 % 4)) = (((Rect.unit (s := S1x8192) ![0, 128 * d] S1x128.size ho).idx x) 1).val / 4
      rw [hx1]; omega)

theorem inbA {a b : ℕ} (h : ∀ i, (![a, b, 0, 0] : Fin 4 → ℕ) i + S32x1x8x128.size i ≤ S192x8x8x128.size i) (i : Fin 2) :
    (![8 * a, 0] : Fin 2 → ℕ) i + S256x96.size i ≤ S1536x96.size i := by
  have h0 : a + 32 ≤ 192 := h 0
  match i with
  | 0 => exact (by omega : 8 * a + 256 ≤ 1536)
  | 1 => exact (by decide : 0 + 96 ≤ 96)
theorem inbP {a b : ℕ} (h : ∀ i, (![a, b, 0, 0] : Fin 4 → ℕ) i + S32x1x8x128.size i ≤ S192x8x8x128.size i) (i : Fin 2) :
    (![8 * a, 0] : Fin 2 → ℕ) i + S256x128.size i ≤ S1536x128.size i := by
  have h0 : a + 32 ≤ 192 := h 0
  match i with
  | 0 => exact (by omega : 8 * a + 256 ≤ 1536)
  | 1 => exact (by decide : 0 + 128 ≤ 128)
theorem inbB {a b : ℕ} (h : ∀ i, (![a, b, 0, 0] : Fin 4 → ℕ) i + S32x1x8x128.size i ≤ S192x8x8x128.size i) (i : Fin 2) :
    (![0, b / 2 * 256] : Fin 2 → ℕ) i + S96x256.size i ≤ S96x1024.size i := by
  have h1 : b + 1 ≤ 8 := h 1
  match i with
  | 0 => exact (by decide : 0 + 96 ≤ 96)
  | 1 => exact (by omega : b / 2 * 256 + 256 ≤ 1024)
theorem inbC {a b : ℕ} (h : ∀ i, (![a, b, 0, 0] : Fin 4 → ℕ) i + S32x1x8x128.size i ≤ S192x8x8x128.size i) (i : Fin 2) :
    (![0, b * 128] : Fin 2 → ℕ) i + S1x128.size i ≤ S1x1024.size i := by
  have h1 : b + 1 ≤ 8 := h 1
  match i with
  | 0 => exact (by decide : 0 + 1 ≤ 1)
  | 1 => exact (by omega : b * 128 + 128 ≤ 1024)

theorem tileD_apply (e : Bool) (B : Vec Ideal S96x256 .fp8e4m3) (A : Vec Ideal S256x96 .fp8e4m3) (P : Vec Ideal S256x128 .f32) (S : Vec Ideal S1x128 .f32)
    (x : S32x1x8x128.Idx) (i : Fin 256) (hi : i.val = 8 * (x 0).val + (x 2).val) (n : Fin 256) (hn : n.val = (match e with | true => 0 | false => 128) + (x 3).val) :
    tileD e B A P S x = (∑ k : Fin 96, A (ix2 i k) * B (ix2 k n)) * (P (ix2 i (x 3)) * S (ix2 0 (x 3))) * cScale := by
  cases e
  · exact tileD_false B A P S x i hi n hn
  · exact tileD_true B A P S x i hi n (hn.trans (Nat.zero_add _))

theorem pieceD (A : Vec Ideal S1536x96 .fp8e4m3) (P : Vec Ideal S1536x128 .f32) (B : Vec Ideal S96x1024 .fp8e4m3) (S : Vec Ideal S1x1024 .f32) (a b : ℕ)
    (h : ∀ i, (![a, b, 0, 0] : Fin 4 → ℕ) i + S32x1x8x128.size i ≤ S192x8x8x128.size i)
    (x : (Rect.unit (s := S192x8x8x128) ![a, b, 0, 0] S32x1x8x128.size h).shape.Idx) :
    tileD (Nat.beq (b % 2) 0) (ld B (Rect.unit (s := S96x1024) ![0, b / 2 * 256] S96x256.size (inbB h)))
        (ld A (Rect.unit (s := S1536x96) ![8 * a, 0] S256x96.size (inbA h)))
        (ld P (Rect.unit (s := S1536x128) ![8 * a, 0] S256x128.size (inbP h)))
        (ld S (Rect.unit (s := S1x1024) ![0, b * 128] S1x128.size (inbC h))) x
      = outD A P B S ((Rect.unit (s := S192x8x8x128) ![a, b, 0, 0] S32x1x8x128.size h).idx x) := by
  have h0 : (x 0).val < 32 := (x 0).isLt
  have h1 : (x 1).val < 1 := (x 1).isLt
  have h2 : (x 2).val < 8 := (x 2).isLt
  have h3 : (x 3).val < 128 := (x 3).isLt
  have hm : (match Nat.beq (b % 2) 0 with | true => 0 | false => 128) = b % 2 * 128 := by
    rcases Nat.mod_two_eq_zero_or_one b with hb | hb <;> rw [hb] <;> rfl
  refine (tileD_apply _ _ _ _ _ x ⟨8 * (x 0).val + (x 2).val, by omega⟩ rfl ⟨b % 2 * 128 + (x 3).val, by omega⟩ (by rw [hm])).trans ?_
  have eA : ∀ k : Fin 96, (Rect.unit (s := S1536x96) ![8 * a, 0] S256x96.size (inbA h)).idx (ix2 ⟨8 * (x 0).val + (x 2).val, by omega⟩ k)
      = ix2 ⟨8 * (a + 1 * (x 0).val) + (0 + 1 * (x 2).val), by have := h 0; have : a + 32 ≤ 192 := this; omega⟩ k := fun k => by
    funext i
    match i with
    | 0 => exact Fin.ext (by show 8 * a + 1 * (8 * (x 0).val + (x 2).val) = 8 * (a + 1 * (x 0).val) + (0 + 1 * (x 2).val); omega)
    | 1 => exact Fin.ext (by show 0 + 1 * k.val = k.val; omega)
  have eB : ∀ k : Fin 96, (Rect.unit (s := S96x1024) ![0, b / 2 * 256] S96x256.size (inbB h)).idx (ix2 k ⟨b % 2 * 128 + (x 3).val, by omega⟩)
      = ix2 k ⟨128 * (b + 1 * (x 1).val) + (0 + 1 * (x 3).val), by have := h 1; have : b + 1 ≤ 8 := this; omega⟩ := fun k => by
    funext i
    match i with
    | 0 => exact Fin.ext (by show 0 + 1 * k.val = k.val; omega)
    | 1 => exact Fin.ext (by show b / 2 * 256 + 1 * (b % 2 * 128 + (x 3).val) = 128 * (b + 1 * (x 1).val) + (0 + 1 * (x 3).val); omega)
  have eP : (Rect.unit (s := S1536x128) ![8 * a, 0] S256x128.size (inbP h)).idx (ix2 ⟨8 * (x 0).val + (x 2).val, by omega⟩ (x 3))
      = ix2 ⟨8 * (a + 1 * (x 0).val) + (0 + 1 * (x 2).val), by have := h 0; have : a + 32 ≤ 192 := this; omega⟩ (⟨0 + 1 * (x 3).val, by omega⟩ : Fin 128) := by
    funext i
    match i with
    | 0 => exact Fin.ext (by show 8 * a + 1 * (8 * (x 0).val + (x 2).val) = 8 * (a + 1 * (x 0).val) + (0 + 1 * (x 2).val); omega)
    | 1 => rfl
  have eS : (Rect.unit (s := S1x1024) ![0, b * 128] S1x128.size (inbC h)).idx (ix2 0 (x 3))
      = ix2 0 ⟨128 * (b + 1 * (x 1).val) + (0 + 1 * (x 3).val), by have := h 1; have : b + 1 ≤ 8 := this; omega⟩ := by
    funext i
    match i with
    | 0 => rfl
    | 1 => exact Fin.ext (by show b * 128 + 1 * (x 3).val = 128 * (b + 1 * (x 1).val) + (0 + 1 * (x 3).val); omega)
  unfold View.ld
  simp only [eA, eB]
  rw [eP, eS]
  rfl

end Cert.KernelIdeal.Hand
end
-- ==== Proof.IdealBody.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Tactic
public import proofs.«01_k».proof.Proof.IdealRun
public import proofs.«01_k».proof.Proof.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem canon_eq_of {S : Shape} {e : EltTy} (G : S.Idx → Elt Ideal e) : ∀ (L : List (View.Piece (Elt Ideal) S e)),
    (∀ p ∈ L, ∀ x, p.2 x = G (p.1.idx x)) → ∀ y, (∃ p ∈ L, y ∈ p.1.set) → View.canon L y = G y
  | [], _, y, h => by obtain ⟨_, hm, _⟩ := h; exact absurd hm List.not_mem_nil
  | p :: L, hp, y, h => by
    by_cases hy : y ∈ p.1.set
    · obtain ⟨r, w⟩ := p
      obtain ⟨x, rfl⟩ : ∃ x, r.emb x = y := r.exists_idx_of_mem hy
      rw [View.canon_cons_emb]
      exact hp ⟨r, w⟩ List.mem_cons_self x
    · rw [View.canon_cons_of_not_mem p L hy]
      refine canon_eq_of G L (fun q hq => hp q (List.mem_cons_of_mem _ hq)) y ?_
      obtain ⟨p', hm, hy'⟩ := h
      rcases List.mem_cons.mp hm with rfl | hm
      · exact absurd hy' hy
      · exact ⟨p', hm, hy'⟩

theorem read_writes_eq_of {sp : Space} {S : Shape} {e : EltTy} (v : View sig .tc sp S e) (f : v.ty.Contents (Elt Ideal)) (G : S.Idx → Elt Ideal e)
    (L : List (View.Piece (Elt Ideal) S e)) (hp : ∀ p ∈ L, ∀ x, p.2 x = G (p.1.idx x)) (hc : ∀ y, ∃ p ∈ L, y ∈ p.1.set) :
    v.read (Elt Ideal) (v.writes (Elt Ideal) f L) = G := by
  rw [View.read_writes_eq_canon _ _ _ hc]
  exact funext fun y => canon_eq_of G L hp y (hc y)

set_option maxHeartbeats 4000000 in
/-- After the first body the expanded codes' buffer reads as `outE` of the codes' block. -/
theorem run0_read2 (c : Dev nD) (i : grid0.Coords) (M0 : Memref sig .tc .vmem S96x2048 .fp8e4m3) (h0 : M0.IsWhole) (M1 : Memref sig .tc .vmem S4x2048 .f32) (h1 : M1.IsWhole)
    (M2 : Memref sig .tc .vmem S96x8192 .fp8e4m3) (h2 : M2.IsWhole) (M3 : Memref sig .tc .vmem S1x8192 .f32) (h3 : M3.IsWhole)
    (f0 : Bf (F := Ideal) c M0) (f1 : Bf (F := Ideal) c M1) (f2 : Bf (F := Ideal) c M2) (f3 : Bf (F := Ideal) c M3) :
    M2.view.read (Elt Ideal) (run0 c i M0 h0 M1 h1 M2 h2 M3 h3 f0 f1 f2 f3).1.1 = outE (M0.view.read (Elt Ideal) f0) := by
  unfold run0
  refine read_writes_eq_of _ _ _ _ ?_ ?_
  · unfold run0.sl.H2_64
    simp only [List.forall_mem_cons]
    repeat' (refine And.intro ?_ ?_)
    all_goals first
      | exact fun p hp => absurd hp List.not_mem_nil
      | (intro x; exact Eq.trans (by rfl) (pieceE (M0.view.read (Elt Ideal) f0) _ (by decide) _ x))
  · intro y
    exact View.cover_of_tiled _ ![96, 128] (by rfl) y

set_option maxHeartbeats 4000000 in
/-- After the first body the flattened scales' buffer reads as `outS` of the scales' block. -/
theorem run0_read3 (c : Dev nD) (i : grid0.Coords) (M0 : Memref sig .tc .vmem S96x2048 .fp8e4m3) (h0 : M0.IsWhole) (M1 : Memref sig .tc .vmem S4x2048 .f32) (h1 : M1.IsWhole)
    (M2 : Memref sig .tc .vmem S96x8192 .fp8e4m3) (h2 : M2.IsWhole) (M3 : Memref sig .tc .vmem S1x8192 .f32) (h3 : M3.IsWhole)
    (f0 : Bf (F := Ideal) c M0) (f1 : Bf (F := Ideal) c M1) (f2 : Bf (F := Ideal) c M2) (f3 : Bf (F := Ideal) c M3) :
    M3.view.read (Elt Ideal) (run0 c i M0 h0 M1 h1 M2 h2 M3 h3 f0 f1 f2 f3).1.2 = outS (M1.view.read (Elt Ideal) f1) := by
  unfold run0
  refine read_writes_eq_of _ _ _ _ ?_ ?_
  · unfold run0.sl.H3_64
    simp only [List.forall_mem_cons]
    repeat' (refine And.intro ?_ ?_)
    all_goals first
      | exact fun p hp => absurd hp List.not_mem_nil
      | (intro x; exact Eq.trans (by rfl) (pieceS (M1.view.read (Elt Ideal) f1) _ (by decide) _ x))
  · intro y
    exact View.cover_of_tiled _ ![1, 128] (by rfl) y

set_option maxHeartbeats 4000000 in
/-- After the second body the products' buffer reads as `outD` of the four input blocks. -/
theorem run1_read4 (c : Dev nD) (i : grid1.Coords) (M0 : Memref sig .tc .vmem S1536x96 .fp8e4m3) (h0 : M0.IsWhole) (M1 : Memref sig .tc .vmem S1536x128 .f32) (h1 : M1.IsWhole)
    (M2 : Memref sig .tc .vmem S96x1024 .fp8e4m3) (h2 : M2.IsWhole) (M3 : Memref sig .tc .vmem S1x1024 .f32) (h3 : M3.IsWhole) (M4 : Memref sig .tc .vmem S192x8x8x128 .f32) (h4 : M4.IsWhole)
    (f0 : Bf (F := Ideal) c M0) (f1 : Bf (F := Ideal) c M1) (f2 : Bf (F := Ideal) c M2) (f3 : Bf (F := Ideal) c M3) (f4 : Bf (F := Ideal) c M4) :
    M4.view.read (Elt Ideal) (run1 c i M0 h0 M1 h1 M2 h2 M3 h3 M4 h4 f0 f1 f2 f3 f4).1
      = outD (M0.view.read (Elt Ideal) f0) (M1.view.read (Elt Ideal) f1) (M2.view.read (Elt Ideal) f2) (M3.view.read (Elt Ideal) f3) := by
  unfold run1
  refine read_writes_eq_of _ _ _ _ ?_ ?_
  · unfold run1.sl.H4_48
    simp only [List.forall_mem_cons]
    repeat' (refine And.intro ?_ ?_)
    all_goals first
      | exact fun p hp => absurd hp List.not_mem_nil
      | (intro x; exact Eq.trans (by rfl) (pieceD (M0.view.read (Elt Ideal) f0) (M1.view.read (Elt Ideal) f1) (M2.view.read (Elt Ideal) f2) (M3.view.read (Elt Ideal) f3) _ _ _ x))
  · intro y
    exact View.cover_of_tiled _ ![32, 1, 8, 128] (by rfl) y

local notation "𝕄" => MT nD τ sig Unit (Elt Ideal) ℕ (UR sig nD τ) ℕ

/-- The first body from its blocks: the inputs stay, the outputs hold `outE` and `outS` of them. -/
theorem sound0 (c : Dev nD) (i : grid0.Coords) (M0 : Memref sig .tc .vmem S96x2048 .fp8e4m3) (h0 : M0.IsWhole) (M1 : Memref sig .tc .vmem S4x2048 .f32) (h1 : M1.IsWhole)
    (M2 : Memref sig .tc .vmem S96x8192 .fp8e4m3) (h2 : M2.IsWhole) (M3 : Memref sig .tc .vmem S1x8192 .f32) (h3 : M3.IsWhole) (E : Set ℕ)
    (x0 : Vec Ideal S96x2048 .fp8e4m3) (x1 : Vec Ideal S4x2048 .f32) (K : PUnit → sProp 𝕄) :
    iprop(owns (c : Thread nD τ) M0 fullShare x0 ∗ owns (c : Thread nD τ) M1 fullShare x1 ∗ (∃ d, owns (c : Thread nD τ) M2 fullShare d) ∗ (∃ d, owns (c : Thread nD τ) M3 fullShare d)
        ∗ (iprop(owns (c : Thread nD τ) M0 fullShare x0 ∗ owns (c : Thread nD τ) M1 fullShare x1 ∗ owns (c : Thread nD τ) M2 fullShare (outE x0) ∗ owns (c : Thread nD τ) M3 fullShare (outS x1)) -∗ K ⟨⟩))
      ⊢ wp frame (wpE (defs₀ (F := Ideal)) Variants.none c none) E (cc0_expand_b i M0 h0 M1 h1 M2 h2 M3 h3) K := by
  unfold owns
  iintro ⟨⟨%f0, %hf0, H0⟩, ⟨%f1, %hf1, H1⟩, ⟨%d2, %f2, -, H2⟩, ⟨%d3, %f3, -, H3⟩, Hk⟩
  subst hf0 hf1
  iapply ((run0 c i M0 h0 M1 h1 M2 h2 M3 h3 f0 f1 f2 f3).2 E K)
  isplitl [H0]; · iexact H0
  isplitl [H1]; · iexact H1
  isplitl [H2]; · iexact H2
  isplitl [H3]; · iexact H3
  iintro ⟨H0, H1, H2, H3⟩
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact run0_read2 c i M0 h0 M1 h1 M2 h2 M3 h3 f0 f1 f2 f3
  iexists _; isplitr
  swap; · iexact H3
  ipureintro
  exact run0_read3 c i M0 h0 M1 h1 M2 h2 M3 h3 f0 f1 f2 f3

/-- The second body from its blocks: the inputs stay, the output holds `outD` of them. -/
theorem sound1 (c : Dev nD) (i : grid1.Coords) (M0 : Memref sig .tc .vmem S1536x96 .fp8e4m3) (h0 : M0.IsWhole) (M1 : Memref sig .tc .vmem S1536x128 .f32) (h1 : M1.IsWhole)
    (M2 : Memref sig .tc .vmem S96x1024 .fp8e4m3) (h2 : M2.IsWhole) (M3 : Memref sig .tc .vmem S1x1024 .f32) (h3 : M3.IsWhole) (M4 : Memref sig .tc .vmem S192x8x8x128 .f32) (h4 : M4.IsWhole) (E : Set ℕ)
    (x0 : Vec Ideal S1536x96 .fp8e4m3) (x1 : Vec Ideal S1536x128 .f32) (x2 : Vec Ideal S96x1024 .fp8e4m3) (x3 : Vec Ideal S1x1024 .f32) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ (∃ d, owns (c : Thread nD τ) M4 fullShare d)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare (outD x0 x1 x2 x3)) -∗ K ⟨⟩))
      ⊢ wp frame (wpE (defs₀ (F := Ideal)) Variants.none c none) E (cc1_dense_products i M0 h0 M1 h1 M2 h2 M3 h3 M4 h4) K := by
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  iapply ((run1 c i M0 h0 M1 h1 M2 h2 M3 h3 M4 h4 f0 f1 f2 f3 f4).2 E K)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact run1_read4 c i M0 h0 M1 h1 M2 h2 M3 h3 M4 h4 f0 f1 f2 f3 f4

end Cert.KernelIdeal.Hand
end
-- ==== Proof.Blocks.lean ====
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit
public import Idealize.ShloMosaic.Lib.Pipeline.Covers
public import Idealize.ShloMosaic.Lib.Tactic
public import proofs.«01_k».proof.Proof.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

/-! Where the blocks of the two pipelines lie in their arrays, and how far the last ones are cut. -/

theorem index0 : ∀ t : Fin grid0.N, win0_0.index t = ![0, t.val] ∧ win0_1.index t = ![0, t.val] ∧ win0_2.index t = ![0, t.val] ∧ win0_3.index t = ![0, t.val] := by
  decide +kernel

theorem xsize0 : ∀ t : Fin grid0.N, win0_0.xsize (grid0.coords t) = ![96, min 2048 (120000 - 2048 * t.val)] ∧ win0_1.xsize (grid0.coords t) = ![4, min 2048 (120000 - 2048 * t.val)]
    ∧ win0_2.xsize (grid0.coords t) = ![96, min 8192 (480000 - 8192 * t.val)] ∧ win0_3.xsize (grid0.coords t) = ![1, min 8192 (480000 - 8192 * t.val)] := by
  decide +kernel

theorem index1 : ∀ t : Fin grid1.N, win1_0.index t = ![0, 0] ∧ win1_1.index t = ![0, 0] ∧ win1_2.index t = ![0, t.val] ∧ win1_3.index t = ![0, t.val] ∧ win1_4.index t = ![0, t.val, 0, 0] := by
  decide +kernel

theorem xsize1 : ∀ t : Fin grid1.N, win1_2.xsize (grid1.coords t) = ![96, min 1024 (480000 - 1024 * t.val)] ∧ win1_3.xsize (grid1.coords t) = ![1, min 1024 (480000 - 1024 * t.val)]
    ∧ win1_4.xsize (grid1.coords t) = ![192, min 8 (3750 - 8 * t.val), 8, 128] := by
  decide +kernel

/-- A cut block laid over other contents, read at an index that the transfer moves. -/
theorem fill_of_lt {G : Pipeline.Grid} (w : Window sig G) {α : Type} (i : G.Coords) (d : w.block.Idx → α) (g : (w.xblock i).Idx → α) (j : w.block.Idx)
    (h : ∀ a, (j a).val < w.xsize i a) : w.fill i d g j = g fun a => ⟨(j a).val, h a⟩ := by
  unfold Pipeline.Window.fill; rw [dif_pos ((w.moved_iff i j).mpr h)]

/-- What the first kernel leaves in the expanded matrix: each column of `B` four times, the copy for head `h` with the
    rows of the other heads zeroed. -/
def GE (B : Vec Ideal S96x120000 .fp8e4m3) : Vec Ideal S96x480000 .fp8e4m3 :=
  fun y => if (y 0).val / 24 = (y 1).val % 4 then B (ix2 (y 0) ⟨(y 1).val / 4, Nat.div_lt_of_lt_mul (y 1).isLt⟩) else 0

/-- What the first kernel leaves in the flattened scales: column `4 c + h` is the scale of column `c` at head `h`. -/
def GS (S : Vec Ideal S4x120000 .f32) : Vec Ideal S1x480000 .f32 :=
  fun y => S (ix2 ⟨(y 1).val % 4, Nat.mod_lt _ (by decide)⟩ ⟨(y 1).val / 4, Nat.div_lt_of_lt_mul (y 1).isLt⟩)

theorem row_lt (y : S192x3750x8x128.Idx) : 8 * (y 0).val + (y 2).val < 1536 := by
  have h0 : (y 0).val < 192 := (y 0).isLt
  have h2 : (y 2).val < 8 := (y 2).isLt
  omega
theorem col_lt (y : S192x3750x8x128.Idx) : 128 * (y 1).val + (y 3).val < 480000 := by
  have h0 : (y 1).val < 3750 := (y 1).isLt
  have h2 : (y 3).val < 128 := (y 3).isLt
  omega

/-- What the second kernel leaves in the result: each product of a row and an expanded column, times the two scales and
    the constant. -/
def GD (A : Vec Ideal S1536x96 .fp8e4m3) (P : Vec Ideal S1536x128 .f32) (B : Vec Ideal S96x480000 .fp8e4m3) (S : Vec Ideal S1x480000 .f32) :
    Vec Ideal S192x3750x8x128 .f32 :=
  fun y => (∑ k : Fin 96, A (ix2 ⟨8 * (y 0).val + (y 2).val, row_lt y⟩ k) * B (ix2 k ⟨128 * (y 1).val + (y 3).val, col_lt y⟩))
    * (P (ix2 ⟨8 * (y 0).val + (y 2).val, row_lt y⟩ (y 3)) * S (ix2 0 ⟨128 * (y 1).val + (y 3).val, col_lt y⟩)) * cScale

theorem in0_0 (t : Fin grid0.N) (A : Vec Ideal S96x120000 .fp8e4m3) (d : S96x2048.Idx → Elt Ideal .fp8e4m3) (x : S96x2048.Idx) (h : 2048 * t.val + (x 1).val < 120000) :
    win0_0.fill (grid0.coords t) d ((win0_0.blk t).view.read (Elt Ideal) A) x = A (ix2 (x 0) ⟨2048 * t.val + (x 1).val, h⟩) := by
  have h0 : (x 0).val < 96 := (x 0).isLt
  have h1 : (x 1).val < 2048 := (x 1).isLt
  rw [fill_of_lt win0_0 (grid0.coords t) d _ x (fun a => by rw [(xsize0 t).1]; fin_cases a; (· exact h0); show (x 1).val < min 2048 (120000 - 2048 * t.val); omega)]
  blk_ext [index0 t]

theorem in0_1 (t : Fin grid0.N) (A : Vec Ideal S4x120000 .f32) (d : S4x2048.Idx → Elt Ideal .f32) (x : S4x2048.Idx) (h : 2048 * t.val + (x 1).val < 120000) :
    win0_1.fill (grid0.coords t) d ((win0_1.blk t).view.read (Elt Ideal) A) x = A (ix2 (x 0) ⟨2048 * t.val + (x 1).val, h⟩) := by
  have h0 : (x 0).val < 4 := (x 0).isLt
  have h1 : (x 1).val < 2048 := (x 1).isLt
  rw [fill_of_lt win0_1 (grid0.coords t) d _ x (fun a => by rw [(xsize0 t).2.1]; fin_cases a; (· exact h0); show (x 1).val < min 2048 (120000 - 2048 * t.val); omega)]
  blk_ext [index0 t]

theorem in1_2 (t : Fin grid1.N) (A : Vec Ideal S96x480000 .fp8e4m3) (d : S96x1024.Idx → Elt Ideal .fp8e4m3) (x : S96x1024.Idx) (h : 1024 * t.val + (x 1).val < 480000) :
    win1_2.fill (grid1.coords t) d ((win1_2.blk t).view.read (Elt Ideal) A) x = A (ix2 (x 0) ⟨1024 * t.val + (x 1).val, h⟩) := by
  have h0 : (x 0).val < 96 := (x 0).isLt
  have h1 : (x 1).val < 1024 := (x 1).isLt
  rw [fill_of_lt win1_2 (grid1.coords t) d _ x (fun a => by rw [(xsize1 t).1]; fin_cases a; (· exact h0); show (x 1).val < min 1024 (480000 - 1024 * t.val); omega)]
  blk_ext [index1 t]

theorem in1_3 (t : Fin grid1.N) (A : Vec Ideal S1x480000 .f32) (d : S1x1024.Idx → Elt Ideal .f32) (x : S1x1024.Idx) (h : 1024 * t.val + (x 1).val < 480000) :
    win1_3.fill (grid1.coords t) d ((win1_3.blk t).view.read (Elt Ideal) A) x = A (ix2 (x 0) ⟨1024 * t.val + (x 1).val, h⟩) := by
  have h0 : (x 0).val < 1 := (x 0).isLt
  have h1 : (x 1).val < 1024 := (x 1).isLt
  rw [fill_of_lt win1_3 (grid1.coords t) d _ x (fun a => by rw [(xsize1 t).2.1]; fin_cases a; (· exact h0); show (x 1).val < min 1024 (480000 - 1024 * t.val); omega)]
  blk_ext [index1 t]

theorem in1_0 (t : Fin grid1.N) (A : Vec Ideal S1536x96 .fp8e4m3) : (win1_0.blk t).view.read (Elt Ideal) A = A := by
  funext x; blk_ext [index1 t]

theorem in1_1 (t : Fin grid1.N) (A : Vec Ideal S1536x128 .f32) : (win1_1.blk t).view.read (Elt Ideal) A = A := by
  funext x; blk_ext [index1 t]

/-- The part of the first kernel's first output block that is written back is that block of `GE`, whatever the input block
    holds beyond the array's end. -/
theorem cutE (t : Fin grid0.N) (A : Vec Ideal S96x120000 .fp8e4m3) (d : S96x2048.Idx → Elt Ideal .fp8e4m3) :
    win0_2.cut (grid0.coords t) (outE (win0_0.fill (grid0.coords t) d ((win0_0.blk t).view.read (Elt Ideal) A))) = (win0_2.blk t).view.read (Elt Ideal) (GE A) := by
  funext j
  have h0 : (j 0).val < 96 := Nat.lt_of_lt_of_eq (j 0).isLt (congrFun (xsize0 t).2.2.1 0)
  have h1 : (j 1).val < min 8192 (480000 - 8192 * t.val) := Nat.lt_of_lt_of_eq (j 1).isLt (congrFun (xsize0 t).2.2.1 1)
  show outE _ (win0_2.xinj _ j) = _
  unfold outE
  rw [in0_0 t A d _ (by show 2048 * t.val + (j 1).val / 4 < 120000; omega), View.read_apply]
  generalize hp : (win0_2.blk t).view.emb j = p
  have p0 : (p 0).val = (j 0).val := by rw [← hp]; blk_simp [index0 t]
  have p1 : (p 1).val = t.val * 8192 + (j 1).val := by rw [← hp]; blk_simp [index0 t]
  show (if (j 0).val / 24 = (j 1).val % 4 then _ else _) = GE A p
  unfold GE
  refine if_congr ?_ ?_ rfl
  · rw [p0, p1, show (t.val * 8192 + (j 1).val) % 4 = (j 1).val % 4 by omega]
  refine congrArg A ?_
  funext a; fin_cases a
  · exact Fin.ext p0.symm
  · refine Fin.ext ?_
    show 2048 * t.val + (j 1).val / 4 = (p 1).val / 4
    omega

/-- The part of the first kernel's second output block that is written back is that block of `GS`. -/
theorem cutS (t : Fin grid0.N) (A : Vec Ideal S4x120000 .f32) (d : S4x2048.Idx → Elt Ideal .f32) :
    win0_3.cut (grid0.coords t) (outS (win0_1.fill (grid0.coords t) d ((win0_1.blk t).view.read (Elt Ideal) A))) = (win0_3.blk t).view.read (Elt Ideal) (GS A) := by
  funext j
  have h1 : (j 1).val < min 8192 (480000 - 8192 * t.val) := Nat.lt_of_lt_of_eq (j 1).isLt (congrFun (xsize0 t).2.2.2 1)
  show outS _ (win0_3.xinj _ j) = _
  unfold outS
  rw [in0_1 t A d _ (by show 2048 * t.val + (j 1).val / 4 < 120000; omega), View.read_apply]
  generalize hp : (win0_3.blk t).view.emb j = p
  have p1 : (p 1).val = t.val * 8192 + (j 1).val := by rw [← hp]; blk_simp [index0 t]
  show _ = GS A p
  unfold GS
  refine congrArg A ?_
  funext a; fin_cases a
  · refine Fin.ext ?_
    show (j 1).val % 4 = (p 1).val % 4
    omega
  · refine Fin.ext ?_
    show 2048 * t.val + (j 1).val / 4 = (p 1).val / 4
    omega

/-- The part of the second kernel's output block that is written back is that block of `GD`. -/
theorem cutD (t : Fin grid1.N) (A : Vec Ideal S1536x96 .fp8e4m3) (P : Vec Ideal S1536x128 .f32) (B : Vec Ideal S96x480000 .fp8e4m3) (S : Vec Ideal S1x480000 .f32)
    (d2 : S96x1024.Idx → Elt Ideal .fp8e4m3) (d3 : S1x1024.Idx → Elt Ideal .f32) :
    win1_4.cut (grid1.coords t) (outD A P (win1_2.fill (grid1.coords t) d2 ((win1_2.blk t).view.read (Elt Ideal) B))
      (win1_3.fill (grid1.coords t) d3 ((win1_3.blk t).view.read (Elt Ideal) S))) = (win1_4.blk t).view.read (Elt Ideal) (GD A P B S) := by
  funext j
  have h1 : (j 1).val < min 8 (3750 - 8 * t.val) := Nat.lt_of_lt_of_eq (j 1).isLt (congrFun (xsize1 t).2.2 1)
  have h3 : (j 3).val < 128 := Nat.lt_of_lt_of_eq (j 3).isLt (congrFun (xsize1 t).2.2 3)
  have hb : 1024 * t.val + (128 * (j 1).val + (j 3).val) < 480000 := by omega
  show outD A P _ _ (win1_4.xinj _ j) = _
  unfold outD
  rw [in1_3 t S d3 _ (by exact hb), View.read_apply]
  generalize hp : (win1_4.blk t).view.emb j = p
  have p0 : (p 0).val = (j 0).val := by rw [← hp]; blk_simp [index1 t]
  have p1 : (p 1).val = t.val * 8 + (j 1).val := by rw [← hp]; blk_simp [index1 t]
  have p2 : (p 2).val = (j 2).val := by rw [← hp]; blk_simp [index1 t]
  have p3 : (p 3).val = (j 3).val := by rw [← hp]; blk_simp [index1 t]
  show _ = GD A P B S p
  unfold GD
  have hr : ∀ h h', (⟨8 * (win1_4.xinj (grid1.coords t) j 0).val + (win1_4.xinj (grid1.coords t) j 2).val, h⟩ : Fin 1536) = ⟨8 * (p 0).val + (p 2).val, h'⟩ :=
    fun h h' => Fin.ext (by show 8 * (j 0).val + (j 2).val = _; simp only; omega)
  have hc : ∀ h h', (⟨1024 * t.val + (128 * (j 1).val + (j 3).val), h⟩ : Fin 480000) = ⟨128 * (p 1).val + (p 3).val, h'⟩ :=
    fun h h' => Fin.ext (by simp only; omega)
  have hl : (win1_4.xinj (grid1.coords t) j 3 : Fin 128) = p 3 := Fin.ext p3.symm
  congr 2
  · refine Finset.sum_congr rfl fun k _ => ?_
    rw [in1_2 t B d2 _ (by exact hb)]
    exact congrArg₂ (· * ·) (congrArg A (congrArg (fun r => ix2 r k) (hr _ _))) (congrArg B (congrArg (fun n => ix2 k n) (hc _ _)))
  · refine congrArg₂ (· * ·) (congrArg P (congrArg₂ (fun r l => ix2 r l) (hr _ _) hl)) (congrArg S (congrArg (fun n => ix2 0 n) (hc _ _)))

end Cert.KernelIdeal.Hand
-- ==== Proof.IdealDat.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.ValueKit
public import Idealize.ShloMosaic.Lib.Pipeline.Covers
public import Idealize.ShloMosaic.Lib.Tactic
public import proofs.«01_k».proof.Proof.IdealBody
public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! The proof data of the two regions over the reals: each array at its contents `V` at the region's entry, each input's
buffer left as it was fetched, each output's left at its block of the closed form. -/

variable (V : (c : Dev nD) → (b : Ref sig .tc) → Buf (Elt Ideal) ((c : Thread nD τ).loc b))

/-- What the body of the first region leaves in its windows' buffers, on the parts that are transferred. -/
def dat0 (c : Dev nD) : Dat τ (Elt Ideal) Unit ℕ (UR sig nD τ) ℕ cfg0 c where
  A w := V c (Pipeline.arrRef spec0 w)
  after w t := match w with
    | ⟨0, _⟩ => win0_0.fill (grid0.coords t) (fun _ => (0 : EReal)) ((win0_0.blk t).view.read (Elt Ideal) (V c main_v0))
    | ⟨1, _⟩ => win0_1.fill (grid0.coords t) (fun _ => (0 : EReal)) ((win0_1.blk t).view.read (Elt Ideal) (V c main_v1))
    | ⟨2, _⟩ => win0_2.fill (grid0.coords t) (fun _ => (0 : EReal)) ((win0_2.blk t).view.read (Elt Ideal) (GE (V c main_v0)))
    | ⟨3, _⟩ => win0_3.fill (grid0.coords t) (fun _ => (0 : EReal)) ((win0_3.blk t).view.read (Elt Ideal) (GS (V c main_v1)))
  Φ _ := Pipeline.scopedRest spec0 c
  q _ := fullShare
  owed _ := 0

/-- The same of the second region. -/
def dat1 (c : Dev nD) : Dat τ (Elt Ideal) Unit ℕ (UR sig nD τ) ℕ cfg1 c where
  A w := V c (Pipeline.arrRef spec1 w)
  after w t := match w with
    | ⟨0, _⟩ => (win1_0.blk t).view.read (Elt Ideal) (V c main_arg0)
    | ⟨1, _⟩ => (win1_1.blk t).view.read (Elt Ideal) (V c main_v5)
    | ⟨2, _⟩ => win1_2.fill (grid1.coords t) (fun _ => (0 : EReal)) ((win1_2.blk t).view.read (Elt Ideal) (V c main_v2_0))
    | ⟨3, _⟩ => win1_3.fill (grid1.coords t) (fun _ => (0 : EReal)) ((win1_3.blk t).view.read (Elt Ideal) (V c main_v2_1))
    | ⟨4, _⟩ => win1_4.fill (grid1.coords t) (fun _ => (0 : EReal)) ((win1_4.blk t).view.read (Elt Ideal) (GD (V c main_arg0) (V c main_v5) (V c main_v2_0) (V c main_v2_1)))
  Φ _ := Pipeline.scopedRest spec1 c
  q _ := fullShare
  owed _ := 0

theorem before0_0 (c : Dev nD) (t : Fin cfg0.N) (d) : (dat0 V c).before 0 t d = win0_0.fill (grid0.coords t) d ((win0_0.blk t).view.read (Elt Ideal) (V c main_v0)) :=
  (dat0 V c).before_fetched 0 t (fetch0_0 t) d
theorem before0_1 (c : Dev nD) (t : Fin cfg0.N) (d) : (dat0 V c).before 1 t d = win0_1.fill (grid0.coords t) d ((win0_1.blk t).view.read (Elt Ideal) (V c main_v1)) :=
  (dat0 V c).before_fetched 1 t (fetch0_1 t) d
theorem before1_2 (c : Dev nD) (t : Fin cfg1.N) (d) : (dat1 V c).before 2 t d = win1_2.fill (grid1.coords t) d ((win1_2.blk t).view.read (Elt Ideal) (V c main_v2_0)) :=
  (dat1 V c).before_fetched 2 t (fetch1_2 t) d
theorem before1_3 (c : Dev nD) (t : Fin cfg1.N) (d) : (dat1 V c).before 3 t d = win1_3.fill (grid1.coords t) d ((win1_3.blk t).view.read (Elt Ideal) (V c main_v2_1)) :=
  (dat1 V c).before_fetched 3 t (fetch1_3 t) d
theorem before1_0 (c : Dev nD) (t : Fin cfg1.N) (d) : (dat1 V c).before 0 t d = V c main_arg0 :=
  ((dat1 V c).before_in_eq_fetched 0 rfl (fun _ => rfl) (fun _ _ _ => rfl) (fun t => by dsimp only [dat1]; rfl) t d).trans (in1_0 t (V c main_arg0))
theorem before1_1 (c : Dev nD) (t : Fin cfg1.N) (d) : (dat1 V c).before 1 t d = V c main_v5 :=
  ((dat1 V c).before_in_eq_fetched 1 rfl (fun _ => rfl) (fun _ _ _ => rfl) (fun t => by dsimp only [dat1]; rfl) t d).trans (in1_1 t (V c main_v5))

theorem defs₀_row0 (t : Fin cfg0.N) : defs₀ (F := Ideal) .tc cfg0.body (cfg0.bodyArgs t (cfg0.slots t)) = bodyAt0 t := by
  unfold defs₀; rw [Defs.onTc_tc]
theorem defs₀_row1 (t : Fin cfg1.N) : defs₀ (F := Ideal) .tc cfg1.body (cfg1.bodyArgs t (cfg1.slots t)) = bodyAt1 t := by
  unfold defs₀; rw [Defs.onTc_tc]

/-- Contents of a window's block whose transferred part is `g` are a filling of themselves with that part of any filling
    with `g`. -/
theorem as_fill {G : Pipeline.Grid} (w : Window sig G) {α : Type} (i : G.Coords) (X d : w.block.Idx → α) (g : (w.xblock i).Idx → α) (h : w.cut i X = g) :
    w.fill i X (w.cut i (w.fill i d g)) = X := by
  rw [w.cut_fill, ← h, w.fill_cut]

/-- The first body at any point. -/
theorem body0 (c : Dev nD) : BodyObligationLoose (dat0 V c) (defs₀ (F := Ideal)) Variants.none () Set.univ := fun t => by
  rw [bigSep_W0, bigSep_W0, defs₀_row0]
  rw [show (dat0 V c).Φ t.succ = (dat0 V c).Φ t.castSucc from rfl, show (dat0 V c).owesAt () t.succ = (dat0 V c).owesAt () t.castSucc from rfl]
  dsimp only
  simp only [before0_0, before0_1]
  iintro ⟨HΦ, Ho, ⟨%d0, H0⟩, ⟨%d1, H1⟩, ⟨%d2, H2⟩, ⟨%d3, H3⟩⟩
  iapply (sound0 c _ _ _ _ _ _ _ _ _ Set.univ _ _ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]
  · iexists (win0_0.fill (grid0.coords t) d0 ((win0_0.blk t).view.read (Elt Ideal) (V c main_v0)))
    dsimp only [dat0]
    rw [as_fill win0_0 (grid0.coords t) _ _ _ (win0_0.cut_fill _ _ _)]
    iexact H0
  isplitl [H1]
  · iexists (win0_1.fill (grid0.coords t) d1 ((win0_1.blk t).view.read (Elt Ideal) (V c main_v1)))
    dsimp only [dat0]
    rw [as_fill win0_1 (grid0.coords t) _ _ _ (win0_1.cut_fill _ _ _)]
    iexact H1
  isplitl [H2]
  · iexists (outE (win0_0.fill (grid0.coords t) d0 ((win0_0.blk t).view.read (Elt Ideal) (V c main_v0))))
    dsimp only [dat0]
    rw [as_fill win0_2 (grid0.coords t) _ _ _ (cutE t _ _)]
    iexact H2
  · iexists (outS (win0_1.fill (grid0.coords t) d1 ((win0_1.blk t).view.read (Elt Ideal) (V c main_v1))))
    dsimp only [dat0]
    rw [as_fill win0_3 (grid0.coords t) _ _ _ (cutS t _ _)]
    iexact H3

/-- The second body at any point. -/
theorem body1 (c : Dev nD) : BodyObligationLoose (dat1 V c) (defs₀ (F := Ideal)) Variants.none () Set.univ := fun t => by
  rw [bigSep_W1, bigSep_W1, defs₀_row1]
  rw [show (dat1 V c).Φ t.succ = (dat1 V c).Φ t.castSucc from rfl, show (dat1 V c).owesAt () t.succ = (dat1 V c).owesAt () t.castSucc from rfl]
  dsimp only
  simp only [before1_0, before1_1, before1_2, before1_3]
  iintro ⟨HΦ, Ho, ⟨%d0, H0⟩, ⟨%d1, H1⟩, ⟨%d2, H2⟩, ⟨%d3, H3⟩, ⟨%d4, H4⟩⟩
  iapply (sound1 c _ _ _ _ _ _ _ _ _ _ _ Set.univ _ _ _ _ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · dsimp only [dat1]
    rw [in1_0 t (V c main_arg0)]
    iexact H0
  isplitl [H1]
  · dsimp only [dat1]
    rw [in1_1 t (V c main_v5)]
    iexact H1
  isplitl [H2]
  · iexists (win1_2.fill (grid1.coords t) d2 ((win1_2.blk t).view.read (Elt Ideal) (V c main_v2_0)))
    dsimp only [dat1]
    rw [as_fill win1_2 (grid1.coords t) _ _ _ (win1_2.cut_fill _ _ _)]
    iexact H2
  isplitl [H3]
  · iexists (win1_3.fill (grid1.coords t) d3 ((win1_3.blk t).view.read (Elt Ideal) (V c main_v2_1)))
    dsimp only [dat1]
    rw [as_fill win1_3 (grid1.coords t) _ _ _ (win1_3.cut_fill _ _ _)]
    iexact H3
  · iexists (outD (V c main_arg0) (V c main_v5) (win1_2.fill (grid1.coords t) d2 ((win1_2.blk t).view.read (Elt Ideal) (V c main_v2_0)))
      (win1_3.fill (grid1.coords t) d3 ((win1_3.blk t).view.read (Elt Ideal) (V c main_v2_1))))
    dsimp only [dat1]
    rw [as_fill win1_4 (grid1.coords t) _ _ _ (cutD t _ _ _ _ _ _)]
    iexact H4

theorem covers0_2 : (cfg0.win 2).Covers := by decide +kernel
theorem covers0_3 : (cfg0.win 3).Covers := by decide +kernel

/-- After the first region its outputs hold `GE` and `GS` of its inputs. -/
theorem arr0_2 (c : Dev nD) : (dat0 V c).arrAt 2 cfg0.N = GE (V c main_v0) := by
  refine (dat0 V c).arrAt_eq_of_cover 2 _ (fun t hf => ?_) (Pipeline.Window.Covers.cover _ covers0_2 (arr_whole0 2))
  show win0_2.cut (grid0.coords t) ((dat0 V c).after 2 t) = _
  dsimp only [dat0]
  exact win0_2.cut_fill _ _ _
theorem arr0_3 (c : Dev nD) : (dat0 V c).arrAt 3 cfg0.N = GS (V c main_v1) := by
  refine (dat0 V c).arrAt_eq_of_cover 3 _ (fun t hf => ?_) (Pipeline.Window.Covers.cover _ covers0_3 (arr_whole0 3))
  show win0_3.cut (grid0.coords t) ((dat0 V c).after 3 t) = _
  dsimp only [dat0]
  exact win0_3.cut_fill _ _ _

theorem covers1_4 : (cfg1.win 4).Covers := by
  refine Pipeline.Window.covers_of_index_surj _ rfl (by decide) fun β => ?_
  have hn : win1_4.nblk 0 = 1 ∧ win1_4.nblk 1 = 469 ∧ win1_4.nblk 2 = 1 ∧ win1_4.nblk 3 = 1 := by decide +kernel
  have h0 : (β 0).val < 1 := Nat.lt_of_lt_of_eq (β 0).isLt hn.1
  have h1 : (β 1).val < 469 := Nat.lt_of_lt_of_eq (β 1).isLt hn.2.1
  have h2 : (β 2).val < 1 := Nat.lt_of_lt_of_eq (β 2).isLt hn.2.2.1
  have h3 : (β 3).val < 1 := Nat.lt_of_lt_of_eq (β 3).isLt hn.2.2.2
  refine ⟨⟨(β 1).val, Nat.lt_of_lt_of_eq h1 N_1.symm⟩, fun a => ?_⟩
  refine (congrFun (index1 ⟨(β 1).val, Nat.lt_of_lt_of_eq h1 N_1.symm⟩).2.2.2.2 a).trans ?_
  fin_cases a
  · show 0 = (β 0).val; omega
  · rfl
  · show 0 = (β 2).val; omega
  · show 0 = (β 3).val; omega

/-- After the second region its output holds `GD` of its inputs. -/
theorem arr1_4 (c : Dev nD) : (dat1 V c).arrAt 4 cfg1.N = GD (V c main_arg0) (V c main_v5) (V c main_v2_0) (V c main_v2_1) := by
  refine (dat1 V c).arrAt_eq_of_cover 4 _ (fun t hf => ?_) (Pipeline.Window.Covers.cover _ covers1_4 (arr_whole1 4))
  show win1_4.cut (grid1.coords t) ((dat1 V c).after 4 t) = _
  dsimp only [dat1]
  exact win1_4.cut_fill _ _ _

end Cert.KernelIdeal.Hand
-- ==== Proof.IdealMain.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.Pipeline.FrameTail
public import Idealize.ShloMosaic.Lib.Pipeline.Regions
public import Idealize.ShloMosaic.Lib.Pipeline.ValueKit
public import Idealize.ShloMosaic.Lib.Tactic
public import proofs.«01_k».proof.Proof.IdealDat

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

local notation "𝕄" => MT nD τ sig Unit (Elt Ideal) ℕ (UR sig nD τ) ℕ

variable (m : (ℓ : Loc nD τ sig) → Buf (Elt Ideal) ℓ) (ρ : Dev nD → PrngReg)

/-! The whole run over the reals: the host's transposes, the first region, the host's repetition of the row scales, the second
region. What every unscoped buffer holds after each of them: -/

/-- at the launch, -/
def W0 (c : Dev nD) : Valuation τ sig (Elt Ideal) := fun b => m (c, b)
/-- after the transposes, -/
def W1 (c : Dev nD) : Valuation τ sig (Elt Ideal) := StableHlo.after hostOps0 (W0 m c)
/-- the same by reference; -/
def E1 (c : Dev nD) (b : Ref sig .tc) : Buf (Elt Ideal) ((c : Thread nD τ).loc b) := W1 m c (Proc.devRef .tc b)
/-- after the first region, -/
def W2 (c : Dev nD) : Valuation τ sig (Elt Ideal) := Pipeline.afterRegion (dat0 (E1 m) c) (W1 m c)
/-- after the second host stretch, -/
def W3 (c : Dev nD) : Valuation τ sig (Elt Ideal) := StableHlo.after hostOps1 (W2 m c)
/-- the same by reference; -/
def E3 (c : Dev nD) (b : Ref sig .tc) : Buf (Elt Ideal) ((c : Thread nD τ).loc b) := W3 m c (Proc.devRef .tc b)
/-- after the second region. -/
def W4 (c : Dev nD) : Valuation τ sig (Elt Ideal) := Pipeline.afterRegion (dat1 (E3 m) c) (W3 m c)

/-- The two regions' proof data, each at its own entry contents. -/
def pdats : (p : Fin 2) → (c : Dev nD) → Dat τ (Elt Ideal) Unit ℕ (UR sig nD τ) ℕ (cfgs p) c
  | ⟨0, _⟩ => fun c => dat0 (E1 m) c
  | ⟨1, _⟩ => fun c => dat1 (E3 m) c

abbrev L0 : GSem nD τ sig → Finset Unit := fun _ => ∅
abbrev lv0 : GSem nD τ sig → Unit → ℕ := fun _ _ => 0

/-- What rides beside the buffers: the core owes nothing. -/
abbrev RR (c : Dev nD) : sProp 𝕄 := iprop(∃ W, owes (c : Thread nD τ) (0 : CellTallies nD τ sig Unit) W)

set_option backward.isDefEq.respectTransparency.types false in
/-- A region whose invariant is the scoped rest, whose body meets its obligation and which owes nothing, as a segment of the
    run: entered with every unscoped buffer at `V₁`, left with them at the contents after the region. -/
def reg (p : Fin 2) (kit : Pipeline.LaunchFacts (nD := nD) (τ := τ) cfgs p)
    (hbody : ∀ c, BodyObligationLoose (pdats m p c) (defs₀ (F := Ideal)) Variants.none () Set.univ)
    (hshare : ∀ c w, (pdats m p c).share w = fullShare) (howed : ∀ c t, (pdats m p c).owed t = 0) (hrec : ∀ c, (pdats m p c).recorded 0 = Set.univ)
    (V₁ : Dev nD → Valuation τ sig (Elt Ideal))
    (hA : ∀ c w, (pdats m p c).A w = V₁ c (Proc.devRef .tc (Pipeline.arrRef (cfgs p).spec w)))
    (hΦ : ∀ c t, (pdats m p c).Φ t = Pipeline.scopedRest (cfgs p).spec c) :
    RegionSeg (pcfgs (F := Ideal)) adm (pdats m) () defs₀ Variants.none L0 lv0 p :=
  have kitP : Pipeline.PLaunchFacts (nD := nD) (τ := τ) (pcfgs (F := Ideal)) p := kit.toP
  { win := kitP.win.to₀
    block_pos := kitP.block_pos
    stage_whole := kitP.stage_whole
    K := PEmpty
    osem := fun k => k.elim
    ho := Pipeline.OwnSemFacts.none _
    hbody := hbody
    hwaits := Pipeline.hwaits_of_owed_zero (pcfgs (F := Ideal)) adm (pdats m) () L0 lv0 p howed
    pre := fun c => iprop(StableHlo.held (c.tc : Thread nD τ) (Pipeline.ucRefs τ sig) (V₁ c) ∗ RR c)
    post := fun c => iprop(StableHlo.held (c.tc : Thread nD τ) (Pipeline.ucRefs τ sig) (Pipeline.afterRegion (pdats m p c) (V₁ c)) ∗ RR c)
    X := fun _ => BI.emp
    Y := fun _ => BI.emp
    Z := fun c => Pipeline.unscopedRest (Ix := Unit) (Name := ℕ) (U := UR sig nD τ) (Lvl := ℕ) (cfgs p).spec c (fun b => V₁ c (Proc.devRef .tc b))
    hentry := fun c => by
      rw [Pipeline.ownSems0_none,
        show StableHlo.held (c.tc : Thread nD τ) (Pipeline.ucRefs τ sig) (V₁ c) = unscopedBufs c (fun b => V₁ c (Proc.devRef .tc b))
          from (Pipeline.unscopedBufs_held (Ix := Unit) (Name := ℕ) (U := UR sig nD τ) (Lvl := ℕ) c (V₁ c)).symm]
      have hsplit := Pipeline.arrays_of_unscopedBufs (p := p) (pcfgs (F := Ideal)) adm (pdats m) kitP.win kitP.arr_whole c (hshare c)
        (fun b => V₁ c (Proc.devRef .tc b)) (fun w => hA c w)
      iintro ⟨⟨Hub, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Pipeline.Dat.owesAt Pipeline.owesWithin
        rw [howed c 0]
        icases HO with ⟨%W, HO⟩
        iexists W; isplitr; · ipureintro; exact fun _ _ => Or.inl (by rw [hrec c]; trivial)
        iexact HO
      isplitr; · iempintro
      iexact Hrest
    hin := fun c => by
      rw [hΦ c 0]
      iintro ⟨-, -, Hr⟩; iexact Hr
    hout := fun c => by
      rw [Pipeline.ownSems0_none, hΦ c (Fin.last _)]
      iintro Hr
      isplitr; · iempintro
      isplitr; · iempintro
      iexact Hr
    hexit := fun c => by
      have hjoin := Pipeline.unscopedBufs_of_arrays (p := p) (pcfgs (F := Ideal)) adm (Ix := Unit) (Name := ℕ) (U := UR sig nD τ) (Lvl := ℕ)
        kitP.win kitP.arr_whole c (pdats m) (hshare c)
        (fun b => V₁ c (Proc.devRef .tc b)) (fun b => Pipeline.afterRegion (pdats m p c) (V₁ c) (Proc.devRef .tc b)) ((pdats m p c).arrAt · (cfgs p).N)
        (fun w => (Pipeline.afterRegion_arr (pdats m p c) (V₁ c) kit.win.arr_inj w).symm)
        (fun b hb => Pipeline.afterRegion_of_not_arr (pdats m p c) (V₁ c)
          fun w h => hb (h ▸ Finset.mem_image.mpr ⟨w, Finset.mem_univ _, rfl⟩))
      rw [show StableHlo.held (c.tc : Thread nD τ) (Pipeline.ucRefs τ sig) (Pipeline.afterRegion (pdats m p c) (V₁ c)) = unscopedBufs c (fun b => Pipeline.afterRegion (pdats m p c) (V₁ c) (Proc.devRef .tc b))
          from (Pipeline.unscopedBufs_held (Ix := Unit) (Name := ℕ) (U := UR sig nD τ) (Lvl := ℕ) c _).symm]
      iintro ⟨Ha, HO, -, Hrest⟩
      imodintro
      isplitl [Ha Hrest]
      · iapply hjoin; isplitl [Ha] <;> iassumption
      unfold Pipeline.Dat.owesAt Pipeline.owesWithin
      rw [howed c (Fin.last _)]
      icases HO with ⟨%W, -, HO⟩; iexists W; iexact HO }

/-- The first region's segment. -/
def reg0 : RegionSeg (pcfgs (F := Ideal)) adm (pdats m) () defs₀ Variants.none L0 lv0 0 :=
  reg m 0 launch0 (fun c => body0 (E1 m) c) (fun c => (dat0 (E1 m) c).share_full fun _ => rfl) (fun _ _ => rfl) (fun _ => rfl) (W1 m) (fun _ _ => rfl) (fun _ _ => rfl)
/-- The second region's segment. -/
def reg1 : RegionSeg (pcfgs (F := Ideal)) adm (pdats m) () defs₀ Variants.none L0 lv0 1 :=
  reg m 1 launch1 (fun c => body1 (E3 m) c) (fun c => (dat1 (E3 m) c).share_full fun _ => rfl) (fun _ _ => rfl) (fun _ => rfl) (W3 m) (fun _ _ => rfl) (fun _ _ => rfl)

/-- The transposes as a segment. -/
def sg0 : HostSeg (Ix := Unit) (Name := ℕ) (U := UR sig nD τ) (Lvl := ℕ) (pcfgs (F := Ideal)) defs₀ Variants.none L0 lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) RR
/-- The repetition of the row scales as a segment. -/
def sg2 : HostSeg (Ix := Unit) (Name := ℕ) (U := UR sig nD τ) (Lvl := ℕ) (pcfgs (F := Ideal)) defs₀ Variants.none L0 lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) RR

/-- The program as segments. -/
def sgs (_ : Dev nD) : List (Seg (pcfgs (F := Ideal)) adm (pdats m) () defs₀ Variants.none L0 lv0) :=
  [.host (sg0 m), .region (reg0 m), .host (sg2 m), .region (reg1 m)]

set_option backward.isDefEq.respectTransparency.types false in
/-- Every run of the kernel over the reals ends with each unscoped buffer at `W4` and every semaphore at zero. -/
theorem run_main : θ_run defs (onTc (τ := τ) (main (F := Ideal))) ⟨m, fun _ => 0, ρ⟩ (fun r =>
    (∀ c : Dev nD, ∀ b ∈ Pipeline.ucRefs τ sig, r.2.mem ((c : Thread nD τ).1, b) = W4 m c b) ∧ r.2.sem = fun _ => 0) := by
  refine Pipeline.θ_run_regions_kit_dev_sems (pcfgs (F := Ideal)) adm (pdats m) () cellOf_inj emb₁ defs₀ Variants.none L0 lv0 m ρ main
    (sgs m)
    (fun c Q => by
      rewrite [main_chain c, Seg.run_eq_chain,
        show (sgs m c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [sgs, Seg.pipes_host, Seg.pipes_region, Seg.pipes_nil]; decide)
    (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c))
    (Tₙ := fun c => StableHlo.held (c : Thread nD τ) (Pipeline.ucRefs τ sig) (W4 m c))
    (hch := fun c => ⟨.rfl, .rfl, .rfl, .rfl, .rfl⟩)
    (hinit := by
      refine Pipeline.initEach L0 lv0 fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      iexists _; iexact HO)
    (QY := fun c s => ∀ b ∈ Pipeline.ucRefs τ sig, s.mem ((c : Thread nD τ).1, b) = W4 m c b)
    (hfin := fun c s' => by
      unfold StableHlo.held
      iintro ⟨Hh, HSI⟩
      ihave Hr := (pointsTo_read_all (Pipeline.ucRefs τ sig) (fun b => ((c.tc : Thread nD τ).1, b)) (W4 m c) s') $$ [Hh HSI]
      · isplitl [Hh] <;> iassumption
      imodintro; iexact Hr)
    (hQ := fun _ h hz => ⟨h, funext fun g => hz g (.inr (regions_no_unscoped g.2))⟩)

/-- After the first region, its two outputs; every other buffer as before. -/
theorem W2_v2_0 (c : Dev nD) : W2 m c (Proc.devRef .tc main_v2_0) = GE (W1 m c (Proc.devRef .tc main_v0)) :=
  (Pipeline.afterRegion_arr (dat0 (E1 m) c) (W1 m c) (by decide) 2).trans (arr0_2 (E1 m) c)
theorem W2_v2_1 (c : Dev nD) : W2 m c (Proc.devRef .tc main_v2_1) = GS (W1 m c (Proc.devRef .tc main_v1)) :=
  (Pipeline.afterRegion_arr (dat0 (E1 m) c) (W1 m c) (by decide) 3).trans (arr0_3 (E1 m) c)
theorem W2_of (c : Dev nD) (r : Ref sig .tc) (h : ∀ w, r ≠ Pipeline.arrRef spec0 w) : W2 m c (Proc.devRef .tc r) = W1 m c (Proc.devRef .tc r) :=
  Pipeline.afterRegion_of_not_arr (dat0 (E1 m) c) (W1 m c) h
/-- After the second region, its output; every other buffer as before. -/
theorem W4_v6 (c : Dev nD) : W4 m c (Proc.devRef .tc main_v6) = GD (W3 m c (Proc.devRef .tc main_arg0)) (W3 m c (Proc.devRef .tc main_v5)) (W3 m c (Proc.devRef .tc main_v2_0)) (W3 m c (Proc.devRef .tc main_v2_1)) :=
  (Pipeline.afterRegion_arr (dat1 (E3 m) c) (W3 m c) (by decide) 4).trans (arr1_4 (E3 m) c)
theorem W4_of (c : Dev nD) (r : Ref sig .tc) (h : ∀ w, r ≠ Pipeline.arrRef spec1 w) : W4 m c (Proc.devRef .tc r) = W3 m c (Proc.devRef .tc r) :=
  Pipeline.afterRegion_of_not_arr (dat1 (E3 m) c) (W3 m c) h
theorem W4_arg0 (c : Dev nD) : W4 m c (Proc.devRef .tc main_arg0) = W3 m c (Proc.devRef .tc main_arg0) :=
  (Pipeline.afterRegion_arr (dat1 (E3 m) c) (W3 m c) (by decide) 0).trans ((dat1 (E3 m) c).arrAt_in 0 rfl _)
theorem W1_of (c : Dev nD) (r : Ref sig .tc) (h : r ∉ hostOps0_W) : W1 m c (Proc.devRef .tc r) = m ((c : Thread nD τ).loc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- The arguments end as launched. -/
theorem W3_arg0 (c : Dev nD) : W3 m c (Proc.devRef .tc main_arg0) = m ((c : Thread nD τ).loc main_arg0) :=
  (W3_of m c _ (by decide)).trans <| (W2_of m c _ (by decide)).trans <| W1_of m c _ (by decide)
theorem W4_main_arg0 (c : Dev nD) : W4 m c (Proc.devRef .tc main_arg0) = m ((c : Thread nD τ).loc main_arg0) :=
  (W4_arg0 m c).trans (W3_arg0 m c)
theorem W4_main_arg1 (c : Dev nD) : W4 m c (Proc.devRef .tc main_arg1) = m ((c : Thread nD τ).loc main_arg1) :=
  (W4_of m c _ (by decide)).trans <| (W3_of m c _ (by decide)).trans <| (W2_of m c _ (by decide)).trans <| W1_of m c _ (by decide)
theorem W4_main_arg2 (c : Dev nD) : W4 m c (Proc.devRef .tc main_arg2) = m ((c : Thread nD τ).loc main_arg2) :=
  (W4_of m c _ (by decide)).trans <| (W3_of m c _ (by decide)).trans <| (W2_of m c _ (by decide)).trans <| W1_of m c _ (by decide)
theorem W4_main_arg3 (c : Dev nD) : W4 m c (Proc.devRef .tc main_arg3) = m ((c : Thread nD τ).loc main_arg3) :=
  (W4_of m c _ (by decide)).trans <| (W3_of m c _ (by decide)).trans <| (W2_of m c _ (by decide)).trans <| W1_of m c _ (by decide)

end Cert.KernelIdeal.Hand
-- ==== Proof.Spec.lean ====
module

public import Idealize.ShloMosaic.PureOps.Ideal
public import proofs.«01_k».proof.Proof.Tiles

@[expose] public section

noncomputable section

namespace Cert.Hand

/-- One element of the result over the reals, at row `r`, column `n` and head `h`: the 24 products of that head's codes, times
    the row's and the column's scale at that head, times the constant. -/
def spec (a : Fin 1536 → Fin 96 → EReal) (sa : Fin 1536 → Fin 4 → EReal) (b : Fin 120000 → Fin 96 → EReal) (sb : Fin 120000 → Fin 4 → EReal)
    (r : Fin 1536) (n : Fin 120000) (h : Fin 4) : EReal :=
  (∑ d : Fin 24, a r ⟨24 * h.val + d.val, by omega⟩ * b n ⟨24 * h.val + d.val, by omega⟩) * (sa r h * sb n h) * Cert.KernelIdeal.Hand.cScale

end Cert.Hand
-- ==== Proof.IdealValue.lean ====
module

public import Idealize.ShloMosaic.Lib.StableHlo.ReadAt
public import Idealize.ShloMosaic.Lib.Pointwise
public import proofs.«01_k».proof.Proof.IdealMain
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- The transposed codes at an element. -/
theorem v0_at (c : Dev nD) (k : Fin 96) (n : Fin 120000) :
    (W1 m c (Proc.devRef .tc main_v0) : Vec Ideal S96x120000 .fp8e4m3) (ix2 k n) = (m ((c : Thread nD τ).loc main_arg2) : Vec Ideal S120000x96 .fp8e4m3) (ix2 n k) := by
  unfold W1
  after_reads_at
  rfl

/-- The transposed scales at an element. -/
theorem v1_at (c : Dev nD) (h : Fin 4) (n : Fin 120000) :
    (W1 m c (Proc.devRef .tc main_v1) : Vec Ideal S4x120000 .f32) (ix2 h n) = (m ((c : Thread nD τ).loc main_arg3) : Vec Ideal S120000x4 .f32) (ix2 n h) := by
  unfold W1
  after_reads_at
  rfl

/-- The row scales repeated along a register, at an element. -/
theorem v5_at (c : Dev nD) (r : Fin 1536) (l : Fin 128) :
    (W3 m c (Proc.devRef .tc main_v5) : Vec Ideal S1536x128 .f32) (ix2 r l)
      = (m ((c : Thread nD τ).loc main_arg1) : Vec Ideal S1536x4 .f32) (ix2 r ⟨l.val % 4, Nat.mod_lt _ (by decide)⟩) := by
  have h := (W2_of m c main_arg1 (by decide)).trans (W1_of m c main_arg1 (by decide))
  rw [← h]
  unfold W3
  generalize W2 m c = V
  after_reads_at

/-- The 96 products of which three heads' are masked to zero sum to the 24 products of the fourth. -/
theorem sum_head (f : Fin 96 → EReal) (h : Fin 4) :
    (∑ k : Fin 96, if k.val / 24 = h.val then f k else 0) = ∑ d : Fin 24, f ⟨24 * h.val + d.val, by omega⟩ := by
  rw [← (finProdFinEquiv (m := 4) (n := 24)).sum_comp (fun k : Fin 96 => if k.val / 24 = h.val then f k else 0), Fintype.sum_prod_type,
    Finset.sum_eq_single h]
  · refine Finset.sum_congr rfl fun d _ => ?_
    have e : (finProdFinEquiv (h, d) : Fin (4 * 24)).val = d.val + 24 * h.val := rfl
    have hk : (finProdFinEquiv (h, d) : Fin 96) = ⟨24 * h.val + d.val, by omega⟩ := Fin.ext (by show (finProdFinEquiv (h, d) : Fin (4 * 24)).val = _; rw [e]; simp only; omega)
    rw [hk, if_pos (by simp only; omega)]
  · intro b _ hb
    refine Finset.sum_eq_zero fun d _ => ?_
    have e : (finProdFinEquiv (b, d) : Fin (4 * 24)).val = d.val + 24 * b.val := rfl
    rw [if_neg]
    intro hc
    apply hb
    apply Fin.ext
    have : (d.val + 24 * b.val) / 24 = h.val := by rw [← e]; exact hc
    omega
  · intro hn; exact absurd (Finset.mem_univ _) hn

/-- The kernel's result at an element: the products of one row and one column over the 24 entries of one head, times the
    two scales of that head and the constant. -/
theorem out_at (c : Dev nD) (y : S192x3750x8x128.Idx) (r : Fin 1536) (n : Fin 120000) (h : Fin 4)
    (hr : r.val = 8 * (y 0).val + (y 2).val) (hn : 4 * n.val + h.val = 128 * (y 1).val + (y 3).val) :
    (W4 m c (Proc.devRef .tc main_v6) : Vec Ideal S192x3750x8x128 .f32) y
      = Cert.Hand.spec (fun r k => (m ((c : Thread nD τ).loc main_arg0) : Vec Ideal S1536x96 .fp8e4m3) (ix2 r k))
          (fun r h => (m ((c : Thread nD τ).loc main_arg1) : Vec Ideal S1536x4 .f32) (ix2 r h))
          (fun n k => (m ((c : Thread nD τ).loc main_arg2) : Vec Ideal S120000x96 .fp8e4m3) (ix2 n k))
          (fun n h => (m ((c : Thread nD τ).loc main_arg3) : Vec Ideal S120000x4 .f32) (ix2 n h)) r n h := by
  have e2 := (W3_of m c main_v2_0 (by decide)).trans (W2_v2_0 m c)
  have e3 := (W3_of m c main_v2_1 (by decide)).trans (W2_v2_1 m c)
  have hh : h.val < 4 := h.isLt
  have h3 : (y 3).val < 128 := (y 3).isLt
  have er : ∀ p, (⟨8 * (y 0).val + (y 2).val, p⟩ : Fin 1536) = r := fun p => Fin.ext hr.symm
  have en : ∀ p, (⟨(128 * (y 1).val + (y 3).val) / 4, p⟩ : Fin 120000) = n := fun p => Fin.ext (by simp only; omega)
  have eh : ∀ p, (⟨(128 * (y 1).val + (y 3).val) % 4, p⟩ : Fin 4) = h := fun p => Fin.ext (by simp only; omega)
  have el : ∀ p, (⟨(y 3).val % 4, p⟩ : Fin 4) = h := fun p => Fin.ext (by simp only; omega)
  have hm : (128 * (y 1).val + (y 3).val) % 4 = h.val := by omega
  rw [W4_v6, e2, e3, W3_arg0]
  show GD _ _ (GE _) (GS _) y = _
  unfold GD Cert.Hand.spec
  refine congrArg₂ (· * ·) (congrArg₂ (· * ·) ?_ (congrArg₂ (· * ·) ?_ ?_)) rfl
  · refine Eq.trans ?_ (sum_head (fun k => @HMul.hMul EReal EReal EReal _ ((m ((c : Thread nD τ).loc main_arg0) : Vec Ideal S1536x96 .fp8e4m3) (ix2 r k)) ((m ((c : Thread nD τ).loc main_arg2) : Vec Ideal S120000x96 .fp8e4m3) (ix2 n k))) h)
    refine Finset.sum_congr rfl fun k _ => ?_
    have hv : (W1 m c (Proc.devRef .tc main_v0) : Vec Ideal S96x120000 .fp8e4m3) (ix2 k ⟨(128 * (y 1).val + (y 3).val) / 4, by omega⟩)
        = (m ((c : Thread nD τ).loc main_arg2) : Vec Ideal S120000x96 .fp8e4m3) (ix2 n k) := (v0_at m c k _).trans (congrArg (fun n => (m ((c : Thread nD τ).loc main_arg2) : Vec Ideal S120000x96 .fp8e4m3) (ix2 n k)) (en _))
    rw [er]
    by_cases hk : k.val / 24 = h.val
    · rw [if_pos hk]
      refine congrArg₂ (fun a b : EReal => a * b) rfl ((if_pos (hk.trans hm.symm)).trans hv)
    · rw [if_neg hk]
      refine (congrArg₂ (fun a b : EReal => a * b) rfl (if_neg fun e => hk (e.trans hm))).trans (mul_zero _)
  · rw [er]
    exact (v5_at m c r (y 3)).trans (congrArg (fun h => (m ((c : Thread nD τ).loc main_arg1) : Vec Ideal S1536x4 .f32) (ix2 r h)) (el _))
  · exact (v1_at m c ⟨(128 * (y 1).val + (y 3).val) % 4, Nat.mod_lt _ (by decide)⟩ ⟨(128 * (y 1).val + (y 3).val) / 4, by omega⟩).trans
      (congrArg₂ (fun n h => (m ((c : Thread nD τ).loc main_arg3) : Vec Ideal S120000x4 .f32) (ix2 n h)) (en _) (eh _))

end Cert.KernelIdeal.Hand
-- ==== Proof.RefValue.lean ====
module

public import Idealize.ShloMosaic.Lib.StableHlo.ReadAt
public import Idealize.ShloMosaic.Lib.Pointwise
public import Idealize.ShloMosaic.Lib.Pipeline.ValueKit
public import Idealize.ShloMosaic.Lib.Tactic
public import Idealize.ShloMosaic.Lib.Claim
public import proofs.«01_k».proof.Proof.Gen.ReferenceIdeal.Frame
public import proofs.«01_k».proof.Proof.Spec
public import proofs.«01_k».proof.Proof.Gen.ReferenceIdeal.Points
public import proofs.«01_k».proof.Proof.Gen.ReferenceIdeal.Launch

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ) (ρ : Dev nD → PrngReg)

/-- The widened codes are the codes. -/
theorem arr0_2 (c : Dev nD) : (dats m 0 c).arrAt 2 cfg0.N = (fun i => (m ((c : Thread nD τ).loc main_arg0) : Vec Ideal S1536x96 .fp8e4m3) i) := by
  refine (dats m 0 c).arrAt_eq_of_covers 2 _ (by decide +kernel) fun t hf y => ?_
  blk_simp
  rw [after0_2]
  frame_out
  blk_ext [iblk, V]
theorem arr0_3 (c : Dev nD) : (dats m 0 c).arrAt 3 cfg0.N = (fun i => (m ((c : Thread nD τ).loc main_arg2) : Vec Ideal S120000x96 .fp8e4m3) i) := by
  refine (dats m 0 c).arrAt_eq_of_covers 3 _ (by decide +kernel) fun t hf y => ?_
  blk_simp
  rw [after0_3]
  frame_out
  blk_ext [iblk, V]

/-- The host operations after the widening, over any contents of the device's buffers: the result at an element. -/
theorem tail_at (W : Valuation τ sig (Elt Ideal)) (y : S192x3750x8x128.Idx) (r : Fin 1536) (n : Fin 120000) (h : Fin 4)
    (hr : r.val = 8 * (y 0).val + (y 2).val) (hn : 4 * n.val + h.val = 128 * (y 1).val + (y 3).val) :
    (StableHlo.after hostOps1 W (Proc.devRef .tc main_v14) : Vec Ideal S192x3750x8x128 .f32) y
      = Cert.Hand.spec (fun r k => (W (Proc.devRef .tc main_v0_0) : Vec Ideal S1536x96 .f32) (ix2 r k))
          (fun r h => (W (Proc.devRef .tc main_arg1) : Vec Ideal S1536x4 .f32) (ix2 r h))
          (fun n k => (W (Proc.devRef .tc main_v0_1) : Vec Ideal S120000x96 .f32) (ix2 n k))
          (fun n h => (W (Proc.devRef .tc main_arg3) : Vec Ideal S120000x4 .f32) (ix2 n h)) r n h := by
  after_reads_at
  have hh : h.val < 4 := h.isLt
  have h3 : (y 3).val < 128 := (y 3).isLt
  have er : ∀ p, (⟨(y 0).val * 8 + (y 2).val, p⟩ : Fin 1536) = r := fun p => Fin.ext (by simp only; omega)
  have en : ∀ p, (⟨(y 1).val * 32 + (y 3).val / 4, p⟩ : Fin 120000) = n := fun p => Fin.ext (by simp only; omega)
  have eh : ∀ p, (⟨(y 3).val % 4, p⟩ : Fin 4) = h := fun p => Fin.ext (by simp only; omega)
  have hm : (y 3).val % 4 = h.val := by omega
  unfold Cert.Hand.spec
  refine congrArg₂ (fun a b : EReal => a * b) (congrArg₂ (fun a b : EReal => a * b) (Finset.sum_congr rfl fun d _ => ?_) (congrArg₂ (fun a b : EReal => a * b) ?_ ?_)) rfl
  · have ed : ∀ p, (⟨(y 3).val % 4 * 24 + d.val, p⟩ : Fin 96) = ⟨24 * h.val + d.val, by omega⟩ := fun p => Fin.ext (by simp only; omega)
    refine (mul_comm (G := EReal) _ _).trans (congrArg₂ (fun a b : EReal => a * b) ?_ ?_)
    · exact congrArg₂ (fun r k => (W (Proc.devRef .tc main_v0_0) : Vec Ideal S1536x96 .f32) (ix2 r k)) (er _) (ed _)
    · exact congrArg₂ (fun r k => (W (Proc.devRef .tc main_v0_1) : Vec Ideal S120000x96 .f32) (ix2 r k)) (en _) (ed _)
  · exact congrArg₂ (fun r k => (W (Proc.devRef .tc main_arg1) : Vec Ideal S1536x4 .f32) (ix2 r k)) (er _) (eh _)
  · exact congrArg₂ (fun r k => (W (Proc.devRef .tc main_arg3) : Vec Ideal S120000x4 .f32) (ix2 r k)) (en _) (eh _)

/-- The reference's result at an element. -/
theorem v14_at (c : Dev nD) (y : S192x3750x8x128.Idx) (r : Fin 1536) (n : Fin 120000) (h : Fin 4)
    (hr : r.val = 8 * (y 0).val + (y 2).val) (hn : 4 * n.val + h.val = 128 * (y 1).val + (y 3).val) :
    (Pipeline.afterTail₀ cfgs (dats m) 0 (V0 m) [hostOps1] c main_v14 : Vec Ideal S192x3750x8x128 .f32) y
      = Cert.Hand.spec (fun r k => (m ((c : Thread nD τ).loc main_arg0) : Vec Ideal S1536x96 .fp8e4m3) (ix2 r k))
          (fun r h => (m ((c : Thread nD τ).loc main_arg1) : Vec Ideal S1536x4 .f32) (ix2 r h))
          (fun n k => (m ((c : Thread nD τ).loc main_arg2) : Vec Ideal S120000x96 .fp8e4m3) (ix2 n k))
          (fun n h => (m ((c : Thread nD τ).loc main_arg3) : Vec Ideal S120000x4 .f32) (ix2 n h)) r n h := by
  unfold Pipeline.afterTail₀
  simp only [List.flatten_cons, List.flatten_nil, List.append_nil]
  have a0 := (Pipeline.withArrays_arr (cfgs 0).spec (by decide) c (V0 m c) (fun w => (dats m 0 c).arrAt w (cfgs 0).N) 2).trans (arr0_2 m c)
  have a2 := (Pipeline.withArrays_arr (cfgs 0).spec (by decide) c (V0 m c) (fun w => (dats m 0 c).arrAt w (cfgs 0).N) 3).trans (arr0_3 m c)
  have a1 : Pipeline.withArrays (cfgs 0).spec c (V0 m c) (fun w => (dats m 0 c).arrAt w (cfgs 0).N) (Proc.devRef .tc main_arg1) = m ((c : Thread nD τ).loc main_arg1) :=
    Pipeline.withArrays_of_ne _ c (V0 m c) _ main_arg1 (by decide)
  have a3 : Pipeline.withArrays (cfgs 0).spec c (V0 m c) (fun w => (dats m 0 c).arrAt w (cfgs 0).N) (Proc.devRef .tc main_arg3) = m ((c : Thread nD τ).loc main_arg3) :=
    Pipeline.withArrays_of_ne _ c (V0 m c) _ main_arg3 (by decide)
  revert a0 a1 a2 a3
  generalize (Pipeline.withArrays (cfgs 0).spec c (V0 m c) (fun w => (dats m 0 c).arrAt w (cfgs 0).N)) = W
  intro a0 a2 a1 a3
  refine (tail_at W y r n h hr hn).trans ?_
  have f0 : (W (Proc.devRef .tc main_v0_0) : Vec Ideal S1536x96 .f32) = fun i => (m ((c : Thread nD τ).loc main_arg0) : Vec Ideal S1536x96 .fp8e4m3) i := a0
  have f2 : (W (Proc.devRef .tc main_v0_1) : Vec Ideal S120000x96 .f32) = fun i => (m ((c : Thread nD τ).loc main_arg2) : Vec Ideal S120000x96 .fp8e4m3) i := a2
  rw [f0, f2, a1, a3]

/-- Every run of the reference ends with its result at `main_v14` and its arguments unchanged. -/
theorem run_ref : θ_run defs (onTc (τ := τ) (main (F := Ideal))) ⟨m, fun _ => 0, ρ⟩
    (fun r => ∀ c : Dev nD, r.2.mem ((c : Thread nD τ).loc main_v14) = Pipeline.afterTail₀ cfgs (dats m) 0 (V0 m) [hostOps1] c main_v14) := by
  run_from (Gen.run_main m ρ)

end Cert.ReferenceIdeal.Hand
-- ==== Proof.Algebraic.lean ====
module

public import proofs.«01_k».proof.Defs
public import proofs.«01_k».proof.Proof.IdealValue
public import proofs.«01_k».proof.Proof.RefValue
public import Idealize.ShloMosaic.Adequacy
public import Idealize.ShloMosaic.Init

@[expose] public section

set_option maxRecDepth 16384

noncomputable section

namespace Cert.Hand

open Idealize.ShloMosaic Idealize.ShloMosaic.TcCoe Idealize.SL.Sem

/-- Over the reals every run of the kernel ends, with its four arguments as they were and every semaphore at zero. -/
theorem frame_KernelIdeal : quiescent_KernelIdeal := fun m g _ =>
  θ_run_mono (KernelIdeal.Hand.run_main m g) fun r h => ⟨fun c =>
    ⟨(h.1 c _ (Pipeline.devRef_mem_ucRefs (by decide))).trans (KernelIdeal.Hand.W4_main_arg0 m c),
     (h.1 c _ (Pipeline.devRef_mem_ucRefs (by decide))).trans (KernelIdeal.Hand.W4_main_arg1 m c),
     (h.1 c _ (Pipeline.devRef_mem_ucRefs (by decide))).trans (KernelIdeal.Hand.W4_main_arg2 m c),
     (h.1 c _ (Pipeline.devRef_mem_ucRefs (by decide))).trans (KernelIdeal.Hand.W4_main_arg3 m c)⟩, h.2⟩

/-- Over the reals the reference's result is the kernel's, element by element. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD)
    (h0 : m ((c : Thread KernelIdeal.nD KernelIdeal.τ).loc KernelIdeal.main_arg0) = m' ((c : Thread ReferenceIdeal.nD ReferenceIdeal.τ).loc ReferenceIdeal.main_arg0))
    (h1 : m ((c : Thread KernelIdeal.nD KernelIdeal.τ).loc KernelIdeal.main_arg1) = m' ((c : Thread ReferenceIdeal.nD ReferenceIdeal.τ).loc ReferenceIdeal.main_arg1))
    (h2 : m ((c : Thread KernelIdeal.nD KernelIdeal.τ).loc KernelIdeal.main_arg2) = m' ((c : Thread ReferenceIdeal.nD ReferenceIdeal.τ).loc ReferenceIdeal.main_arg2))
    (h3 : m ((c : Thread KernelIdeal.nD KernelIdeal.τ).loc KernelIdeal.main_arg3) = m' ((c : Thread ReferenceIdeal.nD ReferenceIdeal.τ).loc ReferenceIdeal.main_arg3)) :
    (Pipeline.afterTail₀ ReferenceIdeal.cfgs (ReferenceIdeal.Gen.dats m') 0 (ReferenceIdeal.Gen.V0 m') [ReferenceIdeal.Gen.hostOps1] c ReferenceIdeal.main_v14 : Vec Ideal KernelIdeal.S192x3750x8x128 .f32)
      = KernelIdeal.Hand.W4 m c (Proc.devRef .tc KernelIdeal.main_v6) := by
  funext y
  have l0 : (y 0).val < 192 := (y 0).isLt
  have l1 : (y 1).val < 3750 := (y 1).isLt
  have l2 : (y 2).val < 8 := (y 2).isLt
  have l3 : (y 3).val < 128 := (y 3).isLt
  refine (ReferenceIdeal.Hand.v14_at m' c y ⟨8 * (y 0).val + (y 2).val, by omega⟩ ⟨(128 * (y 1).val + (y 3).val) / 4, by omega⟩
    ⟨(128 * (y 1).val + (y 3).val) % 4, by omega⟩ rfl (by simp only; omega)).trans ?_
  refine Eq.trans ?_ (KernelIdeal.Hand.out_at m c y ⟨8 * (y 0).val + (y 2).val, by omega⟩ ⟨(128 * (y 1).val + (y 3).val) / 4, by omega⟩
    ⟨(128 * (y 1).val + (y 3).val) % 4, by omega⟩ rfl (by simp only; omega)).symm
  rw [h0, h1, h2, h3]

/-- Over the reals the kernel and the reference end with one and the same result. -/
theorem algebraic : algebraic_KernelIdeal_ReferenceIdeal := by
  intro m g m' g' _ hag
  refine ⟨fun c => KernelIdeal.Hand.W4 m c (Proc.devRef .tc KernelIdeal.main_v6), ?_, ?_⟩
  · refine θ_run_mono (KernelIdeal.Hand.run_main m g) fun r h c =>
      ⟨h.1 c _ (Pipeline.devRef_mem_ucRefs (by decide)),
       (h.1 c _ (Pipeline.devRef_mem_ucRefs (by decide))).trans (KernelIdeal.Hand.W4_main_arg0 m c),
       (h.1 c _ (Pipeline.devRef_mem_ucRefs (by decide))).trans (KernelIdeal.Hand.W4_main_arg1 m c),
       (h.1 c _ (Pipeline.devRef_mem_ucRefs (by decide))).trans (KernelIdeal.Hand.W4_main_arg2 m c),
       (h.1 c _ (Pipeline.devRef_mem_ucRefs (by decide))).trans (KernelIdeal.Hand.W4_main_arg3 m c)⟩
  · refine θ_run_mono (θ_run_and (ReferenceIdeal.Hand.run_ref m' g') (ReferenceIdeal.Gen.frame m' g')) fun r h c =>
      ⟨(h.1 c).trans (result_eq m m' c (hag c).1.symm (hag c).2.1.symm (hag c).2.2.1.symm (hag c).2.2.2.symm), h.2.1 c⟩

end Cert.Hand

end
-- ==== Proof.KernelRun.lean ====
module

public import proofs.«01_k».proof.Proof.Gen.Kernel.Launch
public import proofs.«01_k».proof.Proof.Gen.Kernel.Points
public import proofs.«01_k».proof.Proof.Gen.Kernel.Skeleton
public import Idealize.ShloMosaic.Lib.Pipeline.FrameBody
public import Idealize.ShloMosaic.Lib.Pipeline.RegionsLoop
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One copy of the pipeline library's ghost state for each of the two regions. -/
abbrev UU : Type := IProdConst (Fin 2) (UR sig nD τ) × Counters

local notation "𝕄" => MT nD τ sig Unit (Elt F) ℕ UU ℕ

/-- The contents of a reference's buffer, and the reference held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 4000000 in
/-- The first body run from its four buffers at any contents: it ends, and says which contents it leaves. -/
noncomputable def run0 (c : Dev nD) (i : grid0.Coords) (M0 : Memref sig .tc .vmem S96x2048 .fp8e4m3) (h0 : M0.IsWhole) (M1 : Memref sig .tc .vmem S4x2048 .f32) (h1 : M1.IsWhole)
    (M2 : Memref sig .tc .vmem S96x8192 .fp8e4m3) (h2 : M2.IsWhole) (M3 : Memref sig .tc .vmem S1x8192 .f32) (h3 : M3.IsWhole)
    (f0 : Bf (F := F) c M0) (f1 : Bf (F := F) c M1) (f2 : Bf (F := F) c M2) (f3 : Bf (F := F) c M3) :
    { W : Bf (F := F) c M2 × Bf (F := F) c M3 // ∀ (E : Set ℕ) (Q : PUnit → sProp 𝕄),
        iprop(pt c M0 f0 ∗ pt c M1 f1 ∗ pt c M2 f2 ∗ pt c M3 f3 ∗ (iprop(pt c M0 f0 ∗ pt c M1 f1 ∗ pt c M2 W.1 ∗ pt c M3 W.2) -∗ Q ⟨⟩))
          ⊢ wp frame (wpE (defs₀ (F := F)) Variants.none c none) E (cc0_expand_b i M0 h0 M1 h1 M2 h2 M3 h3) Q } := by
  refine ⟨⟨?_, ?_⟩, fun E Q => ?run⟩
  case run =>
    iintro ⟨H0, H1, H2, H3, Hk⟩
    sl_exec!
    sl_step
    iapply Hk
    isplitl [H0]; · iexact H0
    isplitl [H1]; · iexact H1
    isplitl [H2]; · iexact H2
    iexact H3

set_option maxHeartbeats 4000000 in
/-- The second body run from its five buffers at any contents. -/
noncomputable def run1 (c : Dev nD) (i : grid1.Coords) (M0 : Memref sig .tc .vmem S1536x96 .fp8e4m3) (h0 : M0.IsWhole) (M1 : Memref sig .tc .vmem S1536x128 .f32) (h1 : M1.IsWhole)
    (M2 : Memref sig .tc .vmem S96x1024 .fp8e4m3) (h2 : M2.IsWhole) (M3 : Memref sig .tc .vmem S1x1024 .f32) (h3 : M3.IsWhole) (M4 : Memref sig .tc .vmem S192x8x8x128 .f32) (h4 : M4.IsWhole)
    (f0 : Bf (F := F) c M0) (f1 : Bf (F := F) c M1) (f2 : Bf (F := F) c M2) (f3 : Bf (F := F) c M3) (f4 : Bf (F := F) c M4) :
    { W : Bf (F := F) c M4 // ∀ (E : Set ℕ) (Q : PUnit → sProp 𝕄),
        iprop(pt c M0 f0 ∗ pt c M1 f1 ∗ pt c M2 f2 ∗ pt c M3 f3 ∗ pt c M4 f4 ∗ (iprop(pt c M0 f0 ∗ pt c M1 f1 ∗ pt c M2 f2 ∗ pt c M3 f3 ∗ pt c M4 W) -∗ Q ⟨⟩))
          ⊢ wp frame (wpE (defs₀ (F := F)) Variants.none c none) E (cc1_dense_products i M0 h0 M1 h1 M2 h2 M3 h3 M4 h4) Q } := by
  refine ⟨?_, fun E Q => ?run⟩
  case run =>
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

end Cert.Kernel.Hand
end
-- ==== Proof.KernelDat.lean ====
module

public import proofs.«01_k».proof.Proof.Gen.Kernel.Launch
public import proofs.«01_k».proof.Proof.Gen.Kernel.Points
public import proofs.«01_k».proof.Proof.Gen.Kernel.Skeleton
public import Idealize.ShloMosaic.Lib.Pipeline.FrameBody
public import Idealize.ShloMosaic.Lib.Pipeline.RegionsLoop
public import Idealize.ShloMosaic.Lib.Pipeline.FrameTail
public import Idealize.ShloMosaic.Lib.Pipeline.ValueKit
public import Idealize.ShloMosaic.Lib.Tactic
public import proofs.«01_k».proof.Proof.KernelRun

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ UU ℕ

/-- The first body from its blocks: the inputs stay, the outputs hold something. -/
theorem safe0 (c : Dev nD) (i : grid0.Coords) (M0 : Memref sig .tc .vmem S96x2048 .fp8e4m3) (h0 : M0.IsWhole) (M1 : Memref sig .tc .vmem S4x2048 .f32) (h1 : M1.IsWhole)
    (M2 : Memref sig .tc .vmem S96x8192 .fp8e4m3) (h2 : M2.IsWhole) (M3 : Memref sig .tc .vmem S1x8192 .f32) (h3 : M3.IsWhole) (E : Set ℕ)
    (x0 : Vec Bits S96x2048 .fp8e4m3) (x1 : Vec Bits S4x2048 .f32) (K : PUnit → sProp 𝕄) :
    iprop(owns (c : Thread nD τ) M0 fullShare x0 ∗ owns (c : Thread nD τ) M1 fullShare x1 ∗ (∃ d, owns (c : Thread nD τ) M2 fullShare d) ∗ (∃ d, owns (c : Thread nD τ) M3 fullShare d)
        ∗ (iprop(owns (c : Thread nD τ) M0 fullShare x0 ∗ owns (c : Thread nD τ) M1 fullShare x1 ∗ (∃ d, owns (c : Thread nD τ) M2 fullShare d) ∗ (∃ d, owns (c : Thread nD τ) M3 fullShare d)) -∗ K ⟨⟩))
      ⊢ wp frame (wpE (defs₀ (F := Bits)) Variants.none c none) E (cc0_expand_b i M0 h0 M1 h1 M2 h2 M3 h3) K := by
  unfold owns
  iintro ⟨⟨%f0, %hf0, H0⟩, ⟨%f1, %hf1, H1⟩, ⟨%d2, %f2, -, H2⟩, ⟨%d3, %f3, -, H3⟩, Hk⟩
  subst hf0 hf1
  iapply ((run0 c i M0 h0 M1 h1 M2 h2 M3 h3 f0 f1 f2 f3).2 E K)
  isplitl [H0]; · iexact H0
  isplitl [H1]; · iexact H1
  isplitl [H2]; · iexact H2
  isplitl [H3]; · iexact H3
  iintro ⟨H0, H1, H2, H3⟩
  iapply Hk
  isplitl [H0]
  · iexists f0; isplitr; · ipureintro; rfl
    iexact H0
  isplitl [H1]
  · iexists f1; isplitr; · ipureintro; rfl
    iexact H1
  isplitl [H2]
  · iexists _, _; isplitr
    swap; · iexact H2
    ipureintro; rfl
  iexists _, _; isplitr
  swap; · iexact H3
  ipureintro; rfl

/-- The second body from its blocks: the inputs stay, the output holds something. -/
theorem safe1 (c : Dev nD) (i : grid1.Coords) (M0 : Memref sig .tc .vmem S1536x96 .fp8e4m3) (h0 : M0.IsWhole) (M1 : Memref sig .tc .vmem S1536x128 .f32) (h1 : M1.IsWhole)
    (M2 : Memref sig .tc .vmem S96x1024 .fp8e4m3) (h2 : M2.IsWhole) (M3 : Memref sig .tc .vmem S1x1024 .f32) (h3 : M3.IsWhole) (M4 : Memref sig .tc .vmem S192x8x8x128 .f32) (h4 : M4.IsWhole) (E : Set ℕ)
    (x0 : Vec Bits S1536x96 .fp8e4m3) (x1 : Vec Bits S1536x128 .f32) (x2 : Vec Bits S96x1024 .fp8e4m3) (x3 : Vec Bits S1x1024 .f32) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ (∃ d, owns (c : Thread nD τ) M4 fullShare d)
        ∗ (iprop(owns (c : Thread nD τ) M0 fullShare x0 ∗ owns (c : Thread nD τ) M1 fullShare x1 ∗ owns (c : Thread nD τ) M2 fullShare x2 ∗ owns (c : Thread nD τ) M3 fullShare x3 ∗ (∃ d, owns (c : Thread nD τ) M4 fullShare d)) -∗ K ⟨⟩))
      ⊢ wp frame (wpE (defs₀ (F := Bits)) Variants.none c none) E (cc1_dense_products i M0 h0 M1 h1 M2 h2 M3 h3 M4 h4) K := by
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  iapply ((run1 c i M0 h0 M1 h1 M2 h2 M3 h3 M4 h4 f0 f1 f2 f3 f4).2 E K)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _, _; isplitr
  swap; · iexact H4
  ipureintro; rfl

/-! The proof data of the two regions over bits: each array at its contents `V` at the region's entry, each input's buffer left as
it was fetched. The outputs are marked forgotten (`fgt`): what a block that overhangs its array computes beyond the edge cannot be
told apart, over bits, from the rest of the block. -/

variable (V : (b : Ref sig .tc) → (c : Dev nD) → Buf (Elt Bits) ((c : Thread nD τ).loc b))

/-- The windows that are forgotten: the outputs. -/
def fg : (p : Fin 2) → Fin (cfgs p).W → Bool
  | ⟨0, _⟩ => fun w => decide (2 ≤ w.val)
  | ⟨1, _⟩ => fun w => decide (4 ≤ w.val)

/-- What the first body leaves in its windows' buffers. -/
def dat0 (c : Dev nD) : Dat τ (Elt Bits) Unit ℕ UU ℕ cfg0 c where
  A w := V (Pipeline.arrRef spec0 w) c
  after w t := match w with
    | ⟨0, _⟩ => win0_0.fill (grid0.coords t) (fun _ => Classical.ofNonempty) ((win0_0.blk t).view.read (Elt Bits) (V main_v0 c))
    | ⟨1, _⟩ => win0_1.fill (grid0.coords t) (fun _ => Classical.ofNonempty) ((win0_1.blk t).view.read (Elt Bits) (V main_v1 c))
    | ⟨2, _⟩ => fun _ => Classical.ofNonempty
    | ⟨3, _⟩ => fun _ => Classical.ofNonempty
  Φ _ := Pipeline.scopedRest spec0 c
  q _ := fullShare
  owed _ := 0

/-- The same of the second. -/
def dat1 (c : Dev nD) : Dat τ (Elt Bits) Unit ℕ UU ℕ cfg1 c where
  A w := V (Pipeline.arrRef spec1 w) c
  after w t := match w with
    | ⟨0, _⟩ => (win1_0.blk t).view.read (Elt Bits) (V main_arg0 c)
    | ⟨1, _⟩ => (win1_1.blk t).view.read (Elt Bits) (V main_v5 c)
    | ⟨2, _⟩ => win1_2.fill (grid1.coords t) (fun _ => Classical.ofNonempty) ((win1_2.blk t).view.read (Elt Bits) (V main_v2_0 c))
    | ⟨3, _⟩ => win1_3.fill (grid1.coords t) (fun _ => Classical.ofNonempty) ((win1_3.blk t).view.read (Elt Bits) (V main_v2_1 c))
    | ⟨4, _⟩ => fun _ => Classical.ofNonempty
  Φ _ := Pipeline.scopedRest spec1 c
  q _ := fullShare
  owed _ := 0

theorem before0_0 (c : Dev nD) (t : Fin cfg0.N) (d) : (dat0 V c).before 0 t d = win0_0.fill (grid0.coords t) d ((win0_0.blk t).view.read (Elt Bits) (V main_v0 c)) :=
  (dat0 V c).before_fetched 0 t (fetch0_0 t) d
theorem before0_1 (c : Dev nD) (t : Fin cfg0.N) (d) : (dat0 V c).before 1 t d = win0_1.fill (grid0.coords t) d ((win0_1.blk t).view.read (Elt Bits) (V main_v1 c)) :=
  (dat0 V c).before_fetched 1 t (fetch0_1 t) d
theorem before1_2 (c : Dev nD) (t : Fin cfg1.N) (d) : (dat1 V c).before 2 t d = win1_2.fill (grid1.coords t) d ((win1_2.blk t).view.read (Elt Bits) (V main_v2_0 c)) :=
  (dat1 V c).before_fetched 2 t (fetch1_2 t) d
theorem before1_3 (c : Dev nD) (t : Fin cfg1.N) (d) : (dat1 V c).before 3 t d = win1_3.fill (grid1.coords t) d ((win1_3.blk t).view.read (Elt Bits) (V main_v2_1 c)) :=
  (dat1 V c).before_fetched 3 t (fetch1_3 t) d
theorem before1_0 (c : Dev nD) (t : Fin cfg1.N) (d) : (dat1 V c).before 0 t d = (win1_0.blk t).view.read (Elt Bits) (V main_arg0 c) :=
  (dat1 V c).before_in_eq_fetched 0 rfl (fun _ => rfl) (fun _ _ _ => rfl) (fun t => by dsimp only [dat1]; rfl) t d
theorem before1_1 (c : Dev nD) (t : Fin cfg1.N) (d) : (dat1 V c).before 1 t d = (win1_1.blk t).view.read (Elt Bits) (V main_v5 c) :=
  (dat1 V c).before_in_eq_fetched 1 rfl (fun _ => rfl) (fun _ _ _ => rfl) (fun t => by dsimp only [dat1]; rfl) t d

theorem defs₀_row0 (t : Fin cfg0.N) : defs₀ (F := Bits) .tc cfg0.body (cfg0.bodyArgs t (cfg0.slots t)) = bodyAt0 t := by
  unfold defs₀; rw [Defs.onTc_tc]
theorem defs₀_row1 (t : Fin cfg1.N) : defs₀ (F := Bits) .tc cfg1.body (cfg1.bodyArgs t (cfg1.slots t)) = bodyAt1 t := by
  unfold defs₀; rw [Defs.onTc_tc]

/-- Contents of a window's block whose transferred part is `g` are a filling of themselves with that part of any filling
    with `g`. -/
theorem as_fill {G : Pipeline.Grid} (w : Window sig G) {α : Type} (i : G.Coords) (X d : w.block.Idx → α) (g : (w.xblock i).Idx → α) (h : w.cut i X = g) :
    w.fill i X (w.cut i (w.fill i d g)) = X := by
  rw [w.cut_fill, ← h, w.fill_cut]

/-- The first body at any point, its outputs forgotten. -/
theorem body0 (c : Dev nD) : BodyObligationLoose (dat0 V c) (defs₀ (F := Bits)) Variants.none () Set.univ (fg 0) := fun t => by
  rw [bigSep_W0, bigSep_W0, defs₀_row0]
  rw [show (dat0 V c).Φ t.succ = (dat0 V c).Φ t.castSucc from rfl, show (dat0 V c).owesAt () t.succ = (dat0 V c).owesAt () t.castSucc from rfl]
  rw [show fg 0 0 = false from rfl, show fg 0 1 = false from rfl, show fg 0 2 = true from rfl, show fg 0 3 = true from rfl]
  dsimp only
  simp only [before0_0, before0_1]
  iintro ⟨HΦ, Ho, ⟨%d0, H0⟩, ⟨%d1, H1⟩, H2, H3⟩
  iapply (safe0 c _ _ _ _ _ _ _ _ _ Set.univ _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (win0_0.fill (grid0.coords t) d0 ((win0_0.blk t).view.read (Elt Bits) (V main_v0 c)))
    dsimp only [dat0]
    rw [as_fill win0_0 (grid0.coords t) _ _ _ (win0_0.cut_fill _ _ _)]
    iexact H0
  isplitl [H1]
  · iexists (win0_1.fill (grid0.coords t) d1 ((win0_1.blk t).view.read (Elt Bits) (V main_v1 c)))
    dsimp only [dat0]
    rw [as_fill win0_1 (grid0.coords t) _ _ _ (win0_1.cut_fill _ _ _)]
    iexact H1
  isplitl [H2]; · iexact H2
  iexact H3

/-- The second body at any point, its output forgotten. -/
theorem body1 (c : Dev nD) : BodyObligationLoose (dat1 V c) (defs₀ (F := Bits)) Variants.none () Set.univ (fg 1) := fun t => by
  rw [bigSep_W1, bigSep_W1, defs₀_row1]
  rw [show (dat1 V c).Φ t.succ = (dat1 V c).Φ t.castSucc from rfl, show (dat1 V c).owesAt () t.succ = (dat1 V c).owesAt () t.castSucc from rfl]
  rw [show fg 1 0 = false from rfl, show fg 1 1 = false from rfl, show fg 1 2 = false from rfl, show fg 1 3 = false from rfl, show fg 1 4 = true from rfl]
  dsimp only
  simp only [before1_0, before1_1, before1_2, before1_3]
  iintro ⟨HΦ, Ho, ⟨%d0, H0⟩, ⟨%d1, H1⟩, ⟨%d2, H2⟩, ⟨%d3, H3⟩, H4⟩
  iapply (safe1 c _ _ _ _ _ _ _ _ _ _ _ Set.univ _ _ _ _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]
  · dsimp only [dat1]
    iexact H0
  isplitl [H1]
  · dsimp only [dat1]
    iexact H1
  isplitl [H2]
  · iexists (win1_2.fill (grid1.coords t) d2 ((win1_2.blk t).view.read (Elt Bits) (V main_v2_0 c)))
    dsimp only [dat1]
    rw [as_fill win1_2 (grid1.coords t) _ _ _ (win1_2.cut_fill _ _ _)]
    iexact H2
  isplitl [H3]
  · iexists (win1_3.fill (grid1.coords t) d3 ((win1_3.blk t).view.read (Elt Bits) (V main_v2_1 c)))
    dsimp only [dat1]
    rw [as_fill win1_3 (grid1.coords t) _ _ _ (win1_3.cut_fill _ _ _)]
    iexact H3
  iexact H4

end Cert.Kernel.Hand

end
-- ==== Proof.KernelMain.lean ====
module

public import proofs.«01_k».proof.Proof.Gen.Kernel.Launch
public import proofs.«01_k».proof.Proof.Gen.Kernel.Points
public import proofs.«01_k».proof.Proof.Gen.Kernel.Skeleton
public import Idealize.ShloMosaic.Lib.Pipeline.FrameBody
public import Idealize.ShloMosaic.Lib.Pipeline.RegionsLoop
public import Idealize.ShloMosaic.Lib.Pipeline.FrameTail
public import Idealize.ShloMosaic.Lib.Pipeline.ValueKit
public import Idealize.ShloMosaic.Lib.Tactic
public import proofs.«01_k».proof.Proof.KernelDat
public import proofs.«01_k».proof.Proof.Gen.Kernel.Regions
public import Idealize.ShloMosaic.Lib.Pipeline.Regions
public import Idealize.ShloMosaic.Lib.Pipeline.RegionsLoop
public import Idealize.ShloMosaic.Lib.Pipeline.RegionsForgetR
public import Idealize.ShloMosaic.Lib.Pipeline.RegionsForgetLinks
public import Idealize.ShloMosaic.Lib.Pipeline.RegionArraysF
public import Idealize.ShloMosaic.Lib.HostLoop.Plain
public import Idealize.ShloMosaic.Lib.HostLoop.Lifted

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf CSeg Ticket RDat)

local notation "𝕄" => MT nD τ sig Unit (Elt Bits) ℕ UU ℕ

variable (m : (ℓ : Loc nD τ sig) → Buf (Elt Bits) ℓ) (ρ : Dev nD → PrngReg)

/-! The whole run over bits. What the first region leaves in its outputs is not named, so everything after it is said of buffers
at some contents that still hold the arguments. -/

/-- The unscoped buffers at the launch, -/
def W0 (c : Dev nD) : Valuation τ sig (Elt Bits) := fun b => m (c, b)
/-- after the transposes. -/
def W1 (c : Dev nD) : Valuation τ sig (Elt Bits) := StableHlo.after hostOps0 (W0 m c)

/-- The two regions' proof data when the unscoped buffers hold `V₁`. -/
def pdats (V₁ : Dev nD → Valuation τ sig (Elt Bits)) : (p : Fin 2) → (c : Dev nD) → Dat τ (Elt Bits) Unit ℕ UU ℕ (cfgs p) c
  | ⟨0, _⟩ => fun c => dat0 (fun b c => V₁ c (Proc.devRef .tc b)) c
  | ⟨1, _⟩ => fun c => dat1 (fun b c => V₁ c (Proc.devRef .tc b)) c

/-- The contents `V₁` by reference. -/
abbrev byRef (V₁ : Dev nD → Valuation τ sig (Elt Bits)) (b : Ref sig .tc) (c : Dev nD) : Buf (Elt Bits) ((c : Thread nD τ).loc b) := V₁ c (Proc.devRef .tc b)

/-- The same read with the outputs forgotten. -/
abbrev rd (V₁ : Dev nD → Valuation τ sig (Elt Bits)) (p : Fin 2) (c : Dev nD) : RDat τ (Elt Bits) Unit ℕ UU ℕ (cfgs p) c :=
  (pdats V₁ p c).toRForget (fg p)

abbrev L0 : GSem nD τ sig → Finset Unit := fun _ => ∅
abbrev lv0 : GSem nD τ sig → Unit → ℕ := fun _ _ => 0

/-- What rides beside the buffers: the core owes nothing. -/
abbrev RR (c : Dev nD) : sProp 𝕄 := iprop(∃ W, owes (c : Thread nD τ) (0 : CellTallies nD τ sig Unit) W)

/-- `V'` agrees with `V` away from region `p`'s outputs. -/
def Keeps (p : Fin 2) (V V' : Valuation τ sig (Elt Bits)) : Prop :=
  ∀ r : Ref sig .tc, (∀ w, fg p w = true → Pipeline.arrRef (cfgs p).spec w ≠ r) → V' (Proc.devRef .tc r) = V (Proc.devRef .tc r)

set_option backward.isDefEq.respectTransparency.types false in
/-- A region as a segment of the run: entered with every unscoped buffer at `V₁`, left with them at some contents that differ
    from `V₁` at its outputs only. -/
def reg (p : Fin 2) (kit : Pipeline.LaunchFacts (nD := nD) (τ := τ) cfgs p) (V₁ : Dev nD → Valuation τ sig (Elt Bits))
    (hbody : ∀ c, BodyObligationLoose (pdats V₁ p c) (defs₀ (F := Bits)) Variants.none () Set.univ (fg p))
    (hshare : ∀ c w, (pdats V₁ p c).share w = fullShare) (howed : ∀ c t, (pdats V₁ p c).owed t = 0) (hrec : ∀ c, (pdats V₁ p c).recorded 0 = Set.univ)
    (hA : ∀ c w, (pdats V₁ p c).A w = V₁ c (Proc.devRef .tc (Pipeline.arrRef (cfgs p).spec w)))
    (hin' : ∀ w, fg p w = false → ((cfgs p).win w).isOut = false)
    (hΦ : ∀ c t, (pdats V₁ p c).Φ t = Pipeline.scopedRest (cfgs p).spec c) :
    Pipeline.RDat.RegionSeg (pcfgs (F := Bits)) adm (rd V₁) () defs₀ Variants.none L0 lv0 p :=
  have kitP : Pipeline.PLaunchFacts (nD := nD) (τ := τ) (pcfgs (F := Bits)) p := kit.toP
  { win := kitP.win.to₀
    block_pos := kitP.block_pos
    stage_whole := kitP.stage_whole
    K := PEmpty
    osem := fun k => k.elim
    ho := Pipeline.OwnSemFacts.none _
    hbody := fun c => (hbody c).toRForget
    hwaits := Pipeline.RDat.hwaits_of_owed_zero (pcfgs (F := Bits)) adm (rd V₁) () L0 lv0 p howed
    pre := fun c => iprop(StableHlo.held (c.tc : Thread nD τ) (Pipeline.ucRefs τ sig) (V₁ c) ∗ RR c)
    post := fun c => iprop(∃ Vo, StableHlo.held (c.tc : Thread nD τ) (Pipeline.ucRefs τ sig) Vo ∗ ⌜Keeps p (V₁ c) Vo⌝ ∗ RR c)
    X := fun _ => BI.emp
    Y := fun _ => BI.emp
    Z := fun c => Pipeline.unscopedRest (Ix := Unit) (Name := ℕ) (U := UU) (Lvl := ℕ) (cfgs p).spec c (fun b => V₁ c (Proc.devRef .tc b))
    hentry := fun c => by
      show _ ⊢ |={Set.univ}=> iprop((pdats V₁ p c).arrays ((pdats V₁ p c).arrAt · 0) ∗ _ ∗ (pdats V₁ p c).owesAt () 0 ∗ _ ∗ _)
      rw [Pipeline.ownSems0_none,
        show StableHlo.held (c.tc : Thread nD τ) (Pipeline.ucRefs τ sig) (V₁ c) = unscopedBufs c (fun b => V₁ c (Proc.devRef .tc b))
          from (Pipeline.unscopedBufs_held (Ix := Unit) (Name := ℕ) (U := UU) (Lvl := ℕ) c (V₁ c)).symm]
      have hsplit := Pipeline.arrays_of_unscopedBufs (p := p) (pcfgs (F := Bits)) adm (pdats V₁) kitP.win kitP.arr_whole c (hshare c)
        (fun b => V₁ c (Proc.devRef .tc b)) (fun w => hA c w)
      iintro ⟨⟨Hub, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · iapply (show RR c ⊢ (pdats V₁ p c).owesAt () 0 from by
          unfold Pipeline.Dat.owesAt Pipeline.owesWithin
          rw [howed c 0]
          iintro ⟨%W, HO⟩
          iexists W; isplitr; · ipureintro; exact fun _ _ => Or.inl (by rw [hrec c]; trivial)
          iexact HO)
        iexact HO
      isplitr; · iempintro
      iexact Hrest
    hin := fun c => by
      show _ ⊢ (pdats V₁ p c).Φ 0
      rw [hΦ c 0]
      iintro ⟨-, -, Hr⟩; iexact Hr
    hout := fun c => by
      show (pdats V₁ p c).Φ (Fin.last _) ⊢ _
      rw [Pipeline.ownSems0_none, hΦ c (Fin.last _)]
      iintro Hr
      isplitr; · iempintro
      isplitr; · iempintro
      iexact Hr
    hexit := fun c => by
      show iprop(((pdats V₁ p c).toRForget (fg p)).arraysAt (cfgs p).N ∗ (pdats V₁ p c).owesAt () (Fin.last (cfgs p).N) ∗ _ ∗ _) ⊢ _
      iintro ⟨Ha, HO, -, Hrest⟩
      ihave Ha := ((pdats V₁ p c).arraysAt_forget (fg p) (cfgs p).N) $$ Ha
      icases Ha with ⟨%A, %hAA, Ha⟩
      have hjoin := Pipeline.unscopedBufs_of_arrays (p := p) (pcfgs (F := Bits)) adm (Ix := Unit) (Name := ℕ) (U := UU) (Lvl := ℕ)
        kitP.win kitP.arr_whole c (pdats V₁) (hshare c)
        (fun b => V₁ c (Proc.devRef .tc b)) (fun b => Pipeline.withArrays (cfgs p).spec c (V₁ c) A (Proc.devRef .tc b)) A
        (fun w => (Pipeline.withArrays_arr (cfgs p).spec kit.win.arr_inj c (V₁ c) A w).symm)
        (fun b hb => Pipeline.withArrays_of_ne (cfgs p).spec c (V₁ c) A b
          fun w h => hb (h ▸ Finset.mem_image.mpr ⟨w, Finset.mem_univ _, rfl⟩))
      imodintro
      iexists (Pipeline.withArrays (cfgs p).spec c (V₁ c) A)
      rw [show StableHlo.held (c.tc : Thread nD τ) (Pipeline.ucRefs τ sig) (Pipeline.withArrays (cfgs p).spec c (V₁ c) A) = unscopedBufs c (fun b => Pipeline.withArrays (cfgs p).spec c (V₁ c) A (Proc.devRef .tc b))
          from (Pipeline.unscopedBufs_held (Ix := Unit) (Name := ℕ) (U := UU) (Lvl := ℕ) c _).symm]
      isplitl [Ha Hrest]
      · iapply hjoin; isplitl [Ha] <;> iassumption
      isplitr
      · ipureintro
        intro r hr
        by_cases h : ∃ w, Pipeline.arrRef (cfgs p).spec w = r
        · obtain ⟨w, rfl⟩ := h
          have hf : fg p w = false := by
            by_contra hne; exact hr w (by simpa using hne) rfl
          exact (Pipeline.withArrays_arr (cfgs p).spec kit.win.arr_inj c (V₁ c) A w).trans
            ((hAA w hf).trans (((pdats V₁ p c).arrAt_in w (hin' w hf) _).trans (hA c w)))
        · exact Pipeline.withArrays_of_ne (cfgs p).spec c (V₁ c) A r fun w e => h ⟨w, e⟩
      iapply (show (pdats V₁ p c).owesAt () (Fin.last (cfgs p).N) ⊢ RR c from by
        unfold Pipeline.Dat.owesAt Pipeline.owesWithin
        rw [howed c (Fin.last _)]
        iintro ⟨%W, -, HO⟩; iexists W; iexact HO)
      iexact HO }

theorem in0 : ∀ w, fg 0 w = false → ((cfgs 0).win w).isOut = false := by decide
theorem in1 : ∀ w, fg 1 w = false → ((cfgs 1).win w).isOut = false := by decide

/-- The first region's segment. -/
def reg0 (V₁ : Dev nD → Valuation τ sig (Elt Bits)) : Pipeline.RDat.RegionSeg (pcfgs (F := Bits)) adm (rd V₁) () defs₀ Variants.none L0 lv0 0 :=
  reg 0 launch0 V₁ (fun c => body0 (byRef V₁) c) (fun c => (dat0 (byRef V₁) c).share_full fun _ => rfl) (fun _ _ => rfl) (fun _ => rfl) (fun _ _ => rfl) in0 (fun _ _ => rfl)
/-- The second region's segment. -/
def reg1 (V₁ : Dev nD → Valuation τ sig (Elt Bits)) : Pipeline.RDat.RegionSeg (pcfgs (F := Bits)) adm (rd V₁) () defs₀ Variants.none L0 lv0 1 :=
  reg 1 launch1 V₁ (fun c => body1 (byRef V₁) c) (fun c => (dat1 (byRef V₁) c).share_full fun _ => rfl) (fun _ _ => rfl) (fun _ => rfl) (fun _ _ => rfl) in1 (fun _ _ => rfl)

/-- One entry of each region, each with its own copy of the ghost state. -/
def tk : Fin 2 → Ticket (Ix := Unit) (Name := ℕ) (U := UU) (Lvl := ℕ) (nD := nD) (τ := τ) (pcfgs (F := Bits)) adm
  | ⟨0, _⟩ => { p := 0, pdats := pdats (fun _ => W0 (fun _ => fun _ => Classical.ofNonempty) 0), EP := embAt 0 }
  | ⟨1, _⟩ => { p := 1, pdats := pdats (fun _ => W0 (fun _ => fun _ => Classical.ofNonempty) 0), EP := embAt 1 }

/-- The program has no host loop. -/
abbrev loops : Fin 0 → Prog (TpuEff nD τ sig (Elt Bits) (HostLoop.Sig (Pipeline.Sig Λ₀ (Fin 2) fun p => (pcfgs (F := Bits) p).Adm) 0) .tc) PUnit := fun l => l.elim0

/-- The arguments are as launched. -/
def Args (x : Valuation τ sig (Elt Bits)) (c : Dev nD) : Prop :=
  x (Proc.devRef .tc main_arg0) = m ((c : Thread nD τ).loc main_arg0) ∧ x (Proc.devRef .tc main_arg1) = m ((c : Thread nD τ).loc main_arg1)
  ∧ x (Proc.devRef .tc main_arg2) = m ((c : Thread nD τ).loc main_arg2) ∧ x (Proc.devRef .tc main_arg3) = m ((c : Thread nD τ).loc main_arg3)

/-- The transposes, -/
def s0 : CSeg (pcfgs (F := Bits)) adm defs₀ Variants.none L0 lv0 loops tk :=
  CSeg.ofOps (pcfgs (F := Bits)) adm defs₀ Variants.none L0 lv0 loops tk (Pipeline.ucRefs τ sig) hostOps0
    (fun op h => Pipeline.sub_ucRefs op ((List.forall_iff_forall_mem.mp hostOps0_sub) op h))
    (fun op h => (List.forall_iff_forall_mem.mp hostOps0_fresh) op h) (W0 m) RR
/-- the first region, -/
def s1 : CSeg (pcfgs (F := Bits)) adm defs₀ Variants.none L0 lv0 loops tk :=
  CSeg.regionAtR (pcfgs (F := Bits)) adm () cellOf_inj defs₀ Variants.none L0 lv0 loops tk 0 (rd (W1 m)) (reg0 (W1 m))
/-- the repetition of the row scales, from any contents that hold the arguments, -/
def s2 : CSeg (pcfgs (F := Bits)) adm defs₀ Variants.none L0 lv0 loops tk :=
  CSeg.exSel (Args m) (fun x => CSeg.ofOps (pcfgs (F := Bits)) adm defs₀ Variants.none L0 lv0 loops tk (Pipeline.ucRefs τ sig) hostOps1
    (fun op h => Pipeline.sub_ucRefs op ((List.forall_iff_forall_mem.mp hostOps1_sub) op h))
    (fun op h => (List.forall_iff_forall_mem.mp hostOps1_fresh) op h) (fun _ => x) RR)
    (StableHlo.seq hostOps1) (fun _ => rfl) 0 (fun _ => le_rfl) ∅ (fun _ => rfl)
/-- the second region, from any such contents. -/
def s3 : CSeg (pcfgs (F := Bits)) adm defs₀ Variants.none L0 lv0 loops tk :=
  CSeg.regionFR (pcfgs (F := Bits)) adm () cellOf_inj defs₀ Variants.none L0 lv0 loops tk 1 (fun x : Valuation τ sig (Elt Bits) => rd (fun _ => x)) (fun x => reg1 (fun _ => x)) (Args m)

theorem W1_of (c : Dev nD) (r : Ref sig .tc) (h : r ∉ hostOps0_W) : W1 m c (Proc.devRef .tc r) = m ((c : Thread nD τ).loc r) :=
  StableHlo.after_of_writes_sub hostOps0 _ hostOps0_writes h
theorem args_W1 (c : Dev nD) : Args m (W1 m c) c := ⟨W1_of m c _ (by decide), W1_of m c _ (by decide), W1_of m c _ (by decide), W1_of m c _ (by decide)⟩
theorem args_host (x : Valuation τ sig (Elt Bits)) (c : Dev nD) (h : Args m x c) : Args m (StableHlo.after hostOps1 x) c :=
  ⟨(StableHlo.after_of_writes_sub hostOps1 x hostOps1_writes (by decide)).trans h.1,
   (StableHlo.after_of_writes_sub hostOps1 x hostOps1_writes (by decide)).trans h.2.1,
   (StableHlo.after_of_writes_sub hostOps1 x hostOps1_writes (by decide)).trans h.2.2.1,
   (StableHlo.after_of_writes_sub hostOps1 x hostOps1_writes (by decide)).trans h.2.2.2⟩
theorem args_keeps0 (x y : Valuation τ sig (Elt Bits)) (c : Dev nD) (k : Keeps 0 x y) (h : Args m x c) : Args m y c :=
  ⟨(k _ (by decide)).trans h.1, (k _ (by decide)).trans h.2.1, (k _ (by decide)).trans h.2.2.1, (k _ (by decide)).trans h.2.2.2⟩
theorem args_keeps1 (x y : Valuation τ sig (Elt Bits)) (c : Dev nD) (k : Keeps 1 x y) (h : Args m x c) : Args m y c :=
  ⟨(k _ (by decide)).trans h.1, (k _ (by decide)).trans h.2.1, (k _ (by decide)).trans h.2.2.1, (k _ (by decide)).trans h.2.2.2⟩

/-- At the end: every unscoped buffer at some contents that hold the arguments. -/
def Tₙ (c : Dev nD) : sProp 𝕄 := iprop(∃ x, ⌜Args m x c⌝ ∗ StableHlo.held (c.tc : Thread nD τ) (Pipeline.ucRefs τ sig) x)

set_option backward.isDefEq.respectTransparency.types false in
theorem link01 (c : Dev nD) : (s0 m).post c ⊢ (s1 m).pre c := .rfl
set_option backward.isDefEq.respectTransparency.types false in
theorem link12 (c : Dev nD) : (s1 m).post c ⊢ (s2 m).pre c := by
  show iprop(∃ Vo, StableHlo.held (c.tc : Thread nD τ) (Pipeline.ucRefs τ sig) Vo ∗ ⌜Keeps 0 (W1 m c) Vo⌝ ∗ RR c)
    ⊢ iprop(∃ x, ⌜Args m x c⌝ ∗ StableHlo.held (c.tc : Thread nD τ) (Pipeline.ucRefs τ sig) x ∗ RR c)
  iintro ⟨%y, Hh, %hk, HR⟩
  iexists y
  isplitr; · ipureintro; exact args_keeps0 m _ y c hk (args_W1 m c)
  isplitl [Hh] <;> iassumption
set_option backward.isDefEq.respectTransparency.types false in
theorem link23 (c : Dev nD) : (s2 m).post c ⊢ (s3 m).pre c := by
  show iprop(∃ x, ⌜Args m x c⌝ ∗ StableHlo.held (c.tc : Thread nD τ) (Pipeline.ucRefs τ sig) (StableHlo.after hostOps1 x) ∗ RR c)
    ⊢ iprop(∃ x, ⌜Args m x c⌝ ∗ StableHlo.held (c.tc : Thread nD τ) (Pipeline.ucRefs τ sig) x ∗ RR c)
  iintro ⟨%y, %hy, Hh, HR⟩
  iexists (StableHlo.after hostOps1 y)
  isplitr; · ipureintro; exact args_host m y c hy
  isplitl [Hh] <;> iassumption
set_option backward.isDefEq.respectTransparency.types false in
theorem link34 (c : Dev nD) : (s3 m).post c ⊢ iprop(Tₙ m c ∗ ∃ W, owes (c.tc : Thread nD τ) (0 : CellTallies nD τ sig Unit) W) := by
  show iprop(∃ x, ⌜Args m x c⌝ ∗ ∃ Vo, StableHlo.held (c.tc : Thread nD τ) (Pipeline.ucRefs τ sig) Vo ∗ ⌜Keeps 1 x Vo⌝ ∗ RR c) ⊢ _
  unfold Tₙ
  iintro ⟨%y, %hy, %z, Hh, %hk, HR⟩
  isplitl [Hh]
  · iexists z
    isplitr; · ipureintro; exact args_keeps1 m y z c hk hy
    iexact Hh
  iexact HR

/-- The program as a chain over the loops' labels. -/
theorem main_chainL (d : Dev nD) : HostLoop.liftProg (L := 0) (main (F := Bits) d) =
    Pipeline.chain [StableHlo.seq hostOps0, Prog.lift (.customCall (HostLoop.inner (Pipeline.entry 0)) ()),
      StableHlo.seq hostOps1, Prog.lift (.customCall (HostLoop.inner (Pipeline.entry 1)) ())] := by
  rw [main_chain, HostLoop.liftProg_chain]
  simp only [List.map_cons, List.map_nil, HostLoop.liftProg_seq]
  rfl

/-- The launch's ghost state: a copy of the pipelines' per region. -/
def u₀ : UU := (fun _ => initOf (Pipeline.cells cfgs cellOf_inj) (Pipeline.launchToks cfgs cellOf_inj), 1)

set_option backward.isDefEq.respectTransparency.types false in
theorem hu₀ : (ownU u₀ : sProp 𝕄) ⊢ |={Set.univ}=> iprop((bigSep Finset.univ fun j => BI.own ((tk j).EP (initOf (Pipeline.cells cfgs cellOf_inj) (Pipeline.launchToks cfgs cellOf_inj))))
    ∗ bigSep Finset.univ (fun _ : Dev nD => (BI.emp : sProp 𝕄))) := by
  have e : (bigSep Finset.univ fun j : Fin 2 => BI.own ((tk j).EP (initOf (Pipeline.cells cfgs cellOf_inj) (Pipeline.launchToks cfgs cellOf_inj))) : sProp 𝕄)
      = bigSep Finset.univ fun j : Fin 2 => BI.own (embAt (B := Counters) j (initOf (Pipeline.cells cfgs cellOf_inj) (Pipeline.launchToks cfgs cellOf_inj))) :=
    congrArg (bigSep Finset.univ) (funext fun j => match j with | ⟨0, _⟩ => rfl | ⟨1, _⟩ => rfl)
  rw [e]
  unfold u₀
  iintro Hu
  ihave H := (ownU_pair _ _) $$ Hu
  icases H with ⟨HP, -⟩
  ihave HP := (own_iprod (fun _ : Fin 2 => initOf (Pipeline.cells cfgs cellOf_inj) (Pipeline.launchToks cfgs cellOf_inj))) $$ HP
  imodintro
  isplitl [HP]; · iexact HP
  iapply (show (BI.emp : sProp 𝕄) ⊢ bigSep Finset.univ (fun _ : Dev nD => (BI.emp : sProp 𝕄)) from by rw [BI.bigSep_emp_const])
  iempintro

set_option backward.isDefEq.respectTransparency.types false in
/-- Every run of the kernel over bits ends, the arguments as launched and every semaphore at zero. -/
theorem run_main : θ_run defs (onTc (τ := τ) (main (F := Bits))) ⟨m, fun _ => 0, ρ⟩ (fun r =>
    (∀ c : Dev nD, ∃ x, Args m x c ∧ ∀ b ∈ Pipeline.ucRefs τ sig, r.2.mem ((c : Thread nD τ).1, b) = x b) ∧ r.2.sem = fun _ => 0) := by
  refine HostLoop.θ_run_of_lift loops defs (main (F := Bits)) _ _ ?_
  refine Pipeline.θ_run_regions_loop_kit_sems (pcfgs (F := Bits)) adm cellOf_inj defs₀ Variants.none L0 lv0 loops tk m ρ _
    [s0 m, s1 m, s2 m, s3 m]
    (fun c Q => by
      rw [main_chainL c]
      exact .rfl)
    (by
      refine List.Pairwise.cons ?_ (List.Pairwise.cons ?_ (List.Pairwise.cons ?_ (List.Pairwise.cons ?_ List.Pairwise.nil)))
      · intro s _; exact Finset.disjoint_empty_left _
      · intro s hs
        rcases List.mem_cons.mp hs with rfl | hs
        · exact Finset.disjoint_empty_right _
        rcases List.mem_cons.mp hs with rfl | hs
        · exact (by decide : Disjoint ({0} : Finset (Fin 2)) {1})
        exact absurd hs List.not_mem_nil
      · intro s _; exact Finset.disjoint_empty_left _
      · intro s hs; exact absurd hs List.not_mem_nil)
    (O₀ := 0) (hL := fun _ _ => rfl)
    (G := fun _ => iprop(emp)) (u₀ := u₀) (hu₀ := hu₀)
    (T₀ := fun c => iprop(StableHlo.held (c : Thread nD τ) (Pipeline.ucRefs τ sig) (W0 m c) ∗ RR c))
    (Tₙ := Tₙ m)
    (hch := ⟨fun _ => .rfl, link01 m, link12 m, link23 m, link34 m⟩)
    (hinit := by
      refine Pipeline.initEach L0 lv0 fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UU) (Lvl := ℕ) c (W0 m c)]
      iintro ⟨⟨Hh, -, HO, -, Hp, -⟩, -⟩
      imodintro
      isplitl [Hh]; · iexact Hh
      iexists _; iexact HO)
    (QY := fun c s => ∃ x, Args m x c ∧ ∀ b ∈ Pipeline.ucRefs τ sig, s.mem ((c : Thread nD τ).1, b) = x b)
    (hfin := fun c s' => by
      unfold Tₙ StableHlo.held
      iintro ⟨⟨%x, %hx, Hh⟩, HSI⟩
      ihave Hr := (pointsTo_read_all (Pipeline.ucRefs τ sig) (fun b => ((c.tc : Thread nD τ).1, b)) x s') $$ [Hh HSI]
      · isplitl [Hh] <;> iassumption
      icases Hr with ⟨%hb, HSI⟩
      imodintro
      isplitr; · ipureintro; exact ⟨x, hx, hb⟩
      iexact HSI)
    (hQ := fun _ h hz => ⟨h, funext fun g => hz g (.inr (regions_no_unscoped g.2))⟩)

/-- The kernel's frame over bits. -/
theorem run_args : θ_run defs (onTc (τ := τ) (main (F := Bits))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0) :=
  θ_run_mono (run_main m ρ) fun r h => ⟨fun c => by
    obtain ⟨x, hx, hb⟩ := h.1 c
    exact ⟨(hb _ (Pipeline.devRef_mem_ucRefs (by decide))).trans hx.1, (hb _ (Pipeline.devRef_mem_ucRefs (by decide))).trans hx.2.1,
      (hb _ (Pipeline.devRef_mem_ucRefs (by decide))).trans hx.2.2.1, (hb _ (Pipeline.devRef_mem_ucRefs (by decide))).trans hx.2.2.2⟩, h.2⟩

end Cert.Kernel.Hand

end
-- ==== Proof.PackValue.lean ====
module

public import Idealize.ShloMosaic.Lib.StableHlo.ReadAt
public import Idealize.ShloMosaic.Lib.Pointwise
public import Idealize.ShloMosaic.Lib.Pipeline.ValueKit
public import Idealize.ShloMosaic.Lib.Pipeline.Covers
public import Idealize.ShloMosaic.Lib.BitcastPair
public import Idealize.ShloMosaic.Lib.BitcastConvert
public import proofs.«01_k».proof.Defs
public import proofs.«01_k».proof.Proof.Gen.Pack
public import proofs.«01_k».proof.Proof.Gen.PackReference
public import proofs.«01_k».proof.Proof.Gen.Pack.Frame
public import proofs.«01_k».proof.Proof.Gen.PackReference.Run

@[expose] public section

set_option maxRecDepth 16384

noncomputable section

namespace Cert.Pack.Hand

open Cert.Pack Cert.Pack.Gen
open Idealize.ShloMosaic Idealize.ShloMosaic.TcCoe Idealize.ShloMosaic.Tactic

variable (m : (ℓ : Loc nD τ sig) → Buf (Elt Bits) ℓ)

/-- The words: word `(r, l)` holds the values of rows `2 r` (low half) and `2 r + 1` (high half) at lane `l`. -/
def GP (A : Vec Bits S6291456 .bf16) : Vec Bits S24576x128 .i32 := fun y =>
  BitOps.toBits (F := Bits) (φ := .bf16) (A (ix1 ⟨(2 * (y 0).val + 1) * 128 + (y 1).val, by
    have h0 : (y 0).val < 24576 := (y 0).isLt
    have h1 : (y 1).val < 128 := (y 1).isLt
    omega⟩))
  ++ BitOps.toBits (F := Bits) (φ := .bf16) (A (ix1 ⟨(2 * (y 0).val) * 128 + (y 1).val, by
    have h0 : (y 0).val < 24576 := (y 0).isLt
    have h1 : (y 1).val < 128 := (y 1).isLt
    omega⟩))

theorem index0 : ∀ t : Fin grid0.N, win0_0.index t = ![t.val, 0] ∧ win0_1.index t = ![t.val, 0] := by
  decide +kernel

/-- The values in rows of 128, at an element. -/
theorem v0_at (c : Dev nD) (r : Fin 49152) (l : Fin 128) :
    (V m c main_v0 : Vec Bits S49152x128 .bf16) (ix2 r l) = (m ((c : Thread nD τ).loc main_arg0) : Vec Bits S6291456 .bf16) (ix1 ⟨r.val * 128 + l.val, by omega⟩) := by
  unfold V
  after_reads_at

/-- A block of the values at an element. -/
theorem in_at (c : Dev nD) (t : Fin grid0.N) (x : S4096x128.Idx) (n : Fin 6291456) (hn : n.val = (4096 * t.val + (x 0).val) * 128 + (x 1).val) :
    (iblk m c 0 t : Vec Bits S4096x128 .bf16) x = (m ((c : Thread nD τ).loc main_arg0) : Vec Bits S6291456 .bf16) (ix1 n) := by
  have h1 : (x 1).val < 128 := (x 1).isLt
  have h : (iblk m c 0 t : Vec Bits S4096x128 .bf16) x = (V m c main_v0 : Vec Bits S49152x128 .bf16) (ix2 ⟨4096 * t.val + (x 0).val, by omega⟩ (x 1)) := by
    unfold iblk
    generalize V m c = W
    blk_ext [index0 t]
  refine h.trans ((v0_at m c _ _).trans ?_)
  exact congrArg (fun n => (m ((c : Thread nD τ).loc main_arg0) : Vec Bits S6291456 .bf16) (ix1 n)) (Fin.ext hn.symm)

/-- A packed block at an element. -/
theorem pay_at (x0 : Vec Bits S4096x128 .bf16) (y : S2048x128.Idx) :
    k0_pay1 x0 y = BitOps.toBits (F := Bits) (φ := .bf16) (x0 (ix2 ⟨2 * (y 0).val + 1, by have h0 : (y 0).val < 2048 := (y 0).isLt; omega⟩ (y 1)))
      ++ BitOps.toBits (F := Bits) (φ := .bf16) (x0 (ix2 ⟨2 * (y 0).val, by have h0 : (y 0).val < 2048 := (y 0).isLt; omega⟩ (y 1))) := by
  unfold k0_pay1
  rw [bitcast_16_32]
  pointwise
  refine congrArg₂ (fun a b : BitVec 16 => a ++ b) (congrArg (fun i => BitOps.toBits (F := Bits) (φ := .bf16) (x0 i)) ?_) (congrArg (fun i => BitOps.toBits (F := Bits) (φ := .bf16) (x0 i)) ?_)
  all_goals funext a; fin_cases a <;> rfl

theorem arr (c : Dev nD) : (dats m 0 c).arrAt 1 cfg0.N = GP (m ((c : Thread nD τ).loc main_arg0)) := by
  refine (dats m 0 c).arrAt_eq_of_covers 1 _ (by decide +kernel) fun t hf y => ?_
  blk_simp
  rw [after0_1]
  frame_out
  have h0 : (y 0).val < 2048 := (y 0).isLt
  have h1 : (y 1).val < 128 := (y 1).isLt
  refine (pay_at _ _).trans ?_
  generalize hp : ((View.whole main_v1).slice (win0_1.rect t)).emb y = p
  have p0 : (p 0).val = t.val * 2048 + (y 0).val := by rw [← hp]; blk_simp [index0 t]
  have p1 : (p 1).val = (y 1).val := by rw [← hp]; blk_simp [index0 t]
  unfold GP
  refine congrArg₂ (fun a b : BitVec 16 => a ++ b) (congrArg _ ?_) (congrArg _ ?_)
  · refine in_at m c t _ _ ?_
    show (2 * (p 0).val + 1) * 128 + (p 1).val = (4096 * t.val + (2 * (y 0).val + 1)) * 128 + (y 1).val
    omega
  · refine in_at m c t _ _ ?_
    show (2 * (p 0).val) * 128 + (p 1).val = (4096 * t.val + 2 * (y 0).val) * 128 + (y 1).val
    omega

/-- The reference's term is `GP` as well. -/
theorem ref_eq (A : Vec Bits S6291456 .bf16) :
    (Host.bitcastConvertWiden Cert.PackReference.S24576x128 32 (bitcastToInt (F := Bits) (φ := .bf16) (transpose Cert.PackReference.S24576x128x2 [0, 2, 1]
      (shapeCast Cert.PackReference.S24576x2x128 A Cert.PackReference.Gen.shapeCasts_S6291456_S24576x2x128) Cert.PackReference.Gen.transposes_S24576x2x128_S24576x128x2_0_2_1))
      Cert.PackReference.Gen.splits_S24576x128_w32_S24576x128x2_w16 : Vec Bits S24576x128 .i32) = GP A := by
  funext y
  have h0 : (y 0).val < 24576 := (y 0).isLt
  have h1 : (y 1).val < 128 := (y 1).isLt
  unfold GP
  rw [Host.bitcastConvertWiden_apply_16_32]
  pointwise
  have s0 : ∀ k, (Cert.PackReference.Gen.splits_S24576x128_w32_S24576x128x2_w16.snoc y k 0).val = (y 0).val :=
    fun k => Cert.PackReference.Gen.splits_S24576x128_w32_S24576x128x2_w16.snoc_apply_val_of_lt y k 0 (by decide)
  have s1 : ∀ k, (Cert.PackReference.Gen.splits_S24576x128_w32_S24576x128x2_w16.snoc y k 1).val = (y 1).val :=
    fun k => Cert.PackReference.Gen.splits_S24576x128_w32_S24576x128x2_w16.snoc_apply_val_of_lt y k 1 (by decide)
  have s2 : ∀ k, (Cert.PackReference.Gen.splits_S24576x128_w32_S24576x128x2_w16.snoc y k 2).val = k.val :=
    fun k => congrArg Fin.val (Cert.PackReference.Gen.splits_S24576x128_w32_S24576x128x2_w16.snoc_axis y k)
  refine congrArg₂ (fun a b : BitVec 16 => a ++ b) ?_ ?_
  all_goals refine congrArg (fun n => BitOps.toBits (F := Bits) (φ := .bf16) (A (ix1 n))) (Fin.ext ?_)
  · have e0 := s0 ⟨1, by decide⟩
    have e1 := s1 ⟨1, by decide⟩
    have e2 := s2 ⟨1, by decide⟩
    refine (congrArg₂ (fun a b : Nat => a + b) (congrArg₂ (fun a b : Nat => a * 256 + b * 128) e0 e2) e1).trans ?_
    show (y 0).val * 256 + 1 * 128 + (y 1).val = (2 * (y 0).val + 1) * 128 + (y 1).val
    omega
  · have e0 := s0 ⟨0, by decide⟩
    have e1 := s1 ⟨0, by decide⟩
    have e2 := s2 ⟨0, by decide⟩
    refine (congrArg₂ (fun a b : Nat => a + b) (congrArg₂ (fun a b : Nat => a * 256 + b * 128) e0 e2) e1).trans ?_
    show (y 0).val * 256 + 0 * 128 + (y 1).val = 2 * (y 0).val * 128 + (y 1).val
    omega

/-- The kernel's result: the words in one row. -/
theorem v2_eq (c : Dev nD) : (Pipeline.afterTail₀ cfgs (dats m) 0 (V0 m) [hostOps1] c main_v2 : Vec Bits S3145728 .i32)
    = shapeCast S3145728 (GP (m ((c : Thread nD τ).loc main_arg0))) shapeCasts_S24576x128_S3145728 := by
  unfold Pipeline.afterTail₀
  simp only [List.flatten_cons, List.flatten_nil, List.append_nil]
  have a := (Pipeline.withArrays_arr (cfgs 0).spec (by decide) c (V0 m c) (fun w => (dats m 0 c).arrAt w (cfgs 0).N) 1).trans (arr m c)
  revert a
  generalize (Pipeline.withArrays (cfgs 0).spec c (V0 m c) (fun w => (dats m 0 c).arrAt w (cfgs 0).N)) = W
  intro a
  have a' : (W (Proc.devRef .tc main_v1) : Vec Bits S24576x128 .i32) = GP (m ((c : Thread nD τ).loc main_arg0)) := a
  rw [← a']
  after_reads_simp
  rfl

/-- Every run of the kernel ends with its result at `main_v2` and its argument unchanged. -/
theorem run_kernel (ρ : Dev nD → PrngReg) : θ_run defs (onTc (τ := τ) (main (F := Bits))) ⟨m, fun _ => 0, ρ⟩
    (fun r => ∀ c : Dev nD, r.2.mem ((c : Thread nD τ).loc main_v2) = Pipeline.afterTail₀ cfgs (dats m) 0 (V0 m) [hostOps1] c main_v2) := by
  run_from (Gen.run_main m ρ)

/-- Packing gives the reference's words. -/
theorem bitexact : Cert.bitexact_Pack_PackReference := by
  intro m g m' g' _ hag
  refine ⟨fun c => shapeCast S3145728 (GP (m ((c.tc : Thread nD τ).loc main_arg0))) shapeCasts_S24576x128_S3145728, ?_, ?_⟩
  · refine (θ_run (defs (F := Bits)) _ _).mono (fun r h c => ⟨(h.1 c).trans (v2_eq m c), h.2 c⟩) (θ_run_and (run_kernel m g) (Gen.unchanged m g))
  · refine (θ_run (Cert.PackReference.defs (F := Bits)) _ _).mono (fun r h c => ⟨(h c).1.trans ?_, (h c).2⟩) (Cert.PackReference.Value.run m' g')
    rw [hag c]
    exact congrArg (fun w : Vec Bits S24576x128 .i32 => shapeCast S3145728 w shapeCasts_S24576x128_S3145728) (ref_eq _)

/-- The reference runs to its end with its argument unchanged; it has no semaphores. -/
theorem frame_ref : Cert.quiescent_PackReference := fun m g _ =>
  (θ_run Cert.PackReference.defs _ _).mono (fun r h => ⟨fun c => (h c).2, sem_eq_zero_of_no_sems (by decide) r.2⟩) (Cert.PackReference.Value.run (F := Bits) m g)

end Cert.Pack.Hand
-- ==== Proof.UnpackValue.lean ====
module

public import Idealize.ShloMosaic.Lib.StableHlo.ReadAt
public import Idealize.ShloMosaic.Lib.Pointwise
public import Idealize.ShloMosaic.Lib.Pipeline.ValueKit
public import Idealize.ShloMosaic.Lib.Pipeline.Covers
public import Idealize.ShloMosaic.Lib.BitcastPair
public import Idealize.ShloMosaic.Lib.BitcastConvert
public import proofs.«01_k».proof.Defs
public import proofs.«01_k».proof.Proof.Gen.Unpack
public import proofs.«01_k».proof.Proof.Gen.UnpackReference
public import proofs.«01_k».proof.Proof.Gen.Unpack.Frame
public import proofs.«01_k».proof.Proof.Gen.UnpackReference.Run

@[expose] public section

set_option maxRecDepth 16384

noncomputable section

namespace Cert.Unpack.Hand

open Cert.Unpack Cert.Unpack.Gen
open Idealize.ShloMosaic Idealize.ShloMosaic.TcCoe Idealize.ShloMosaic.Tactic

variable (m : (ℓ : Loc nD τ sig) → Buf (Elt Bits) ℓ)

/-- The values: head `2 p + q` at sample `128 b + l` is half `q` (the low half is half `0`) of word `256 b + 128 p + l`. -/
def GU (A : Vec Bits S12582912 .i32) : Vec Bits S4x6291456 .bf16 := fun y =>
  FloatOps.ofBits (F := Bits) .bf16 ((A (ix1 ⟨(y 1).val / 128 * 256 + (y 0).val / 2 * 128 + (y 1).val % 128, by
    have h0 : (y 0).val < 4 := (y 0).isLt
    have h1 : (y 1).val < 6291456 := (y 1).isLt
    omega⟩)).extractLsb' (16 * ((y 0).val % 2)) 16)

theorem index0 : ∀ t : Fin grid0.N, win0_0.index t = ![0, t.val] ∧ win0_1.index t = ![0, t.val] := by
  decide +kernel

/-- The words in two rows, at an element. -/
theorem v2_at (c : Dev nD) (p : Fin 2) (n : Fin 6291456) :
    (V m c main_v2 : Vec Bits S2x6291456 .i32) (ix2 p n) = (m ((c : Thread nD τ).loc main_arg0) : Vec Bits S12582912 .i32) (ix1 ⟨n.val / 128 * 256 + p.val * 128 + n.val % 128, by omega⟩) := by
  unfold V
  after_reads_at

/-- A block of the words at an element. -/
theorem in_at (c : Dev nD) (t : Fin grid0.N) (x : S2x65536.Idx) (n : Fin 12582912) (k : Nat) (hk : k = 65536 * t.val + (x 1).val)
    (hn : n.val = k / 128 * 256 + (x 0).val * 128 + k % 128) :
    (iblk m c 0 t : Vec Bits S2x65536 .i32) x = (m ((c : Thread nD τ).loc main_arg0) : Vec Bits S12582912 .i32) (ix1 n) := by
  have ht : t.val < 96 := Nat.lt_of_lt_of_eq t.isLt N_0
  have h1 : (x 1).val < 65536 := (x 1).isLt
  subst hk
  have h : (iblk m c 0 t : Vec Bits S2x65536 .i32) x = (V m c main_v2 : Vec Bits S2x6291456 .i32) (ix2 (x 0) ⟨65536 * t.val + (x 1).val, by omega⟩) := by
    unfold iblk
    generalize V m c = W
    blk_ext [index0 t]
  refine h.trans ((v2_at m c _ _).trans ?_)
  exact congrArg (fun n => (m ((c : Thread nD τ).loc main_arg0) : Vec Bits S12582912 .i32) (ix1 n)) (Fin.ext hn.symm)

/-- An unpacked block at an element. -/
theorem pay_at (x0 : Vec Bits S2x65536 .i32) (y : S4x65536.Idx) :
    k0_pay1 x0 y = FloatOps.ofBits (F := Bits) .bf16 ((x0 (ix2 ⟨(y 0).val / 2, by have h0 : (y 0).val < 4 := (y 0).isLt; omega⟩ (y 1))).extractLsb' (16 * ((y 0).val % 2)) 16) := by
  unfold k0_pay1
  rw [bitcastToFloat_apply, bitcast_32_16]
  pointwise
  refine congrArg (fun i => FloatOps.ofBits (F := Bits) .bf16 ((x0 i).extractLsb' (16 * ((y 0).val % 2)) 16)) ?_
  funext a; fin_cases a <;> rfl

theorem arr (c : Dev nD) : (dats m 0 c).arrAt 1 cfg0.N = GU (m ((c : Thread nD τ).loc main_arg0)) := by
  refine (dats m 0 c).arrAt_eq_of_covers 1 _ (by decide +kernel) fun t hf y => ?_
  blk_simp
  rw [after0_1]
  frame_out
  have h0 : (y 0).val < 4 := (y 0).isLt
  have h1 : (y 1).val < 65536 := (y 1).isLt
  refine (pay_at _ _).trans ?_
  generalize hp : ((View.whole main_v3).slice (win0_1.rect t)).emb y = p
  have p0 : (p 0).val = (y 0).val := by rw [← hp]; blk_simp [index0 t]
  have p1 : (p 1).val = t.val * 65536 + (y 1).val := by rw [← hp]; blk_simp [index0 t]
  unfold GU
  refine congrArg₂ (fun (w : BitVec 32) (k : Nat) => FloatOps.ofBits (F := Bits) .bf16 (w.extractLsb' (16 * (k % 2)) 16)) ?_ p0.symm
  refine in_at m c t _ _ (p 1).val ?_ ?_
  · show (p 1).val = 65536 * t.val + (y 1).val
    omega
  · show (p 1).val / 128 * 256 + (p 0).val / 2 * 128 + (p 1).val % 128 = (p 1).val / 128 * 256 + (y 0).val / 2 * 128 + (p 1).val % 128
    rw [p0]

/-- The reference's term is `GU` transposed. -/
theorem ref_eq (A : Vec Bits S12582912 .i32) :
    (shapeCast Cert.UnpackReference.S6291456x4 (transpose Cert.UnpackReference.S49152x128x2x2 [0, 2, 1, 3] (bitcastToFloat (F := Bits) .bf16
      (Host.bitcastConvertNarrow Cert.UnpackReference.S49152x2x128x2 16 (shapeCast Cert.UnpackReference.S49152x2x128 A Cert.UnpackReference.Gen.shapeCasts_S12582912_S49152x2x128)
        Cert.UnpackReference.Gen.splits_S49152x2x128_w32_S49152x2x128x2_w16))
      Cert.UnpackReference.Gen.transposes_S49152x2x128x2_S49152x128x2x2_0_2_1_3) Cert.UnpackReference.Gen.shapeCasts_S49152x128x2x2_S6291456x4 : Vec Bits S6291456x4 .bf16)
      = transpose S6291456x4 [1, 0] (GU A) transposes_S4x6291456_S6291456x4_1_0 := by
  funext y
  have h0 : (y 0).val < 6291456 := (y 0).isLt
  have h1 : (y 1).val < 4 := (y 1).isLt
  pointwise
  unfold GU
  exact congrArg (fun k : Nat => FloatOps.ofBits (F := Bits) .bf16 (BitVec.extractLsb' k 16 (A (ix1 ⟨(y 0).val / 128 * 256 + (y 1).val / 2 * 128 + (y 0).val % 128, by omega⟩)))) (Nat.mul_comm ((y 1).val % 2) 16)

/-- The kernel's result: the values, one sample a row. -/
theorem v4_eq (c : Dev nD) : (Pipeline.afterTail₀ cfgs (dats m) 0 (V0 m) [hostOps1] c main_v4 : Vec Bits S6291456x4 .bf16)
    = transpose S6291456x4 [1, 0] (GU (m ((c : Thread nD τ).loc main_arg0))) transposes_S4x6291456_S6291456x4_1_0 := by
  unfold Pipeline.afterTail₀
  simp only [List.flatten_cons, List.flatten_nil, List.append_nil]
  have a := (Pipeline.withArrays_arr (cfgs 0).spec (by decide) c (V0 m c) (fun w => (dats m 0 c).arrAt w (cfgs 0).N) 1).trans (arr m c)
  revert a
  generalize (Pipeline.withArrays (cfgs 0).spec c (V0 m c) (fun w => (dats m 0 c).arrAt w (cfgs 0).N)) = W
  intro a
  have a' : (W (Proc.devRef .tc main_v3) : Vec Bits S4x6291456 .bf16) = GU (m ((c : Thread nD τ).loc main_arg0)) := a
  rw [← a']
  after_reads_simp

/-- Every run of the kernel ends with its result at `main_v4` and its argument unchanged. -/
theorem run_kernel (ρ : Dev nD → PrngReg) : θ_run defs (onTc (τ := τ) (main (F := Bits))) ⟨m, fun _ => 0, ρ⟩
    (fun r => ∀ c : Dev nD, r.2.mem ((c : Thread nD τ).loc main_v4) = Pipeline.afterTail₀ cfgs (dats m) 0 (V0 m) [hostOps1] c main_v4) := by
  run_from (Gen.run_main m ρ)

/-- Unpacking gives the reference's values. -/
theorem bitexact : Cert.bitexact_Unpack_UnpackReference := by
  intro m g m' g' _ hag
  refine ⟨fun c => transpose S6291456x4 [1, 0] (GU (m ((c.tc : Thread nD τ).loc main_arg0))) transposes_S4x6291456_S6291456x4_1_0, ?_, ?_⟩
  · refine (θ_run (defs (F := Bits)) _ _).mono (fun r h c => ⟨(h.1 c).trans (v4_eq m c), h.2 c⟩) (θ_run_and (run_kernel m g) (Gen.unchanged m g))
  · refine (θ_run (Cert.UnpackReference.defs (F := Bits)) _ _).mono (fun r h c => ⟨(h c).1.trans ?_, (h c).2⟩) (Cert.UnpackReference.Value.run m' g')
    rw [hag c]
    exact ref_eq _

/-- The reference runs to its end with its argument unchanged; it has no semaphores. -/
theorem frame_ref : Cert.quiescent_UnpackReference := fun m g _ =>
  (θ_run Cert.UnpackReference.defs _ _).mono (fun r h => ⟨fun c => (h c).2, sem_eq_zero_of_no_sems (by decide) r.2⟩) (Cert.UnpackReference.Value.run (F := Bits) m g)

end Cert.Unpack.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.ReferenceIdeal
public import proofs.«01_k».proof.Proof.Gen.ReferenceIdeal.Frame
public import proofs.«01_k».proof.Proof.Algebraic
public import proofs.«01_k».proof.Proof.KernelMain
public import proofs.«01_k».proof.Proof.PackValue
public import proofs.«01_k».proof.Proof.UnpackValue
public import proofs.«01_k».proof.Proof.Gen.Pack.Frame
public import proofs.«01_k».proof.Proof.Gen.Unpack.Frame
public import proofs.«01_k».proof.Proof.Gen.PackReference.Run
public import proofs.«01_k».proof.Proof.Gen.UnpackReference.Run
public import Idealize.ShloMosaic.Adequacy
public import Idealize.ShloMosaic.Init

@[expose] public section

noncomputable section

namespace Cert.Proof

open Idealize.ShloMosaic Idealize.SL.Sem

/-- The kernel over bits, and over the reals the kernel and the reference, run to their ends with their arguments as they were; over
    the reals the two results are equal. The packing of the values and the unpacking of the words, each alone, and their references
    run to their ends as well, with results that are equal bit for bit. -/
theorem claim : Cert.Claim := ⟨Cert.Kernel.Gen.facts, Cert.KernelIdeal.Gen.facts, Cert.ReferenceIdeal.Gen.facts, Cert.Pack.Gen.facts,
  Cert.PackReference.Gen.facts, Cert.Unpack.Gen.facts, Cert.UnpackReference.Gen.facts,
  fun m g _ => Cert.Kernel.Hand.run_args m g, Cert.Hand.frame_KernelIdeal, fun m g _ => Cert.ReferenceIdeal.Gen.frame m g,
  fun m g _ => Cert.Pack.Gen.frame m g, Cert.Pack.Hand.frame_ref, fun m g _ => Cert.Unpack.Gen.frame m g, Cert.Unpack.Hand.frame_ref,
  trivial, Cert.Hand.algebraic, Cert.Pack.Hand.bitexact, Cert.Unpack.Hand.bitexact⟩

end Cert.Proof

end
